-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailReferenceIdeal (m : (ℓ : Loc Cert.TailReferenceIdeal.nD Cert.TailReferenceIdeal.τ Cert.TailReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8)
      ∧ r.2.mem ((c.tc : Thread Cert.TailReferenceIdeal.nD Cert.TailReferenceIdeal.τ).loc Cert.TailReferenceIdeal.main_arg9) = m ((c.tc : Thread Cert.TailReferenceIdeal.nD Cert.TailReferenceIdeal.τ).loc Cert.TailReferenceIdeal.main_arg9)
      ∧ r.2.mem ((c.tc : Thread Cert.TailReferenceIdeal.nD Cert.TailReferenceIdeal.τ).loc Cert.TailReferenceIdeal.main_arg10) = m ((c.tc : Thread Cert.TailReferenceIdeal.nD Cert.TailReferenceIdeal.τ).loc Cert.TailReferenceIdeal.main_arg10))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4)
      ∧ r.2.mem ((c.tc : Thread Cert.InProjReferenceIdeal.nD Cert.InProjReferenceIdeal.τ).loc Cert.InProjReferenceIdeal.main_arg5) = m ((c.tc : Thread Cert.InProjReferenceIdeal.nD Cert.InProjReferenceIdeal.τ).loc Cert.InProjReferenceIdeal.main_arg5)
      ∧ r.2.mem ((c.tc : Thread Cert.InProjReferenceIdeal.nD Cert.InProjReferenceIdeal.τ).loc Cert.InProjReferenceIdeal.main_arg6) = m ((c.tc : Thread Cert.InProjReferenceIdeal.nD Cert.InProjReferenceIdeal.τ).loc Cert.InProjReferenceIdeal.main_arg6)
      ∧ r.2.mem ((c.tc : Thread Cert.InProjReferenceIdeal.nD Cert.InProjReferenceIdeal.τ).loc Cert.InProjReferenceIdeal.main_arg7) = m ((c.tc : Thread Cert.InProjReferenceIdeal.nD Cert.InProjReferenceIdeal.τ).loc Cert.InProjReferenceIdeal.main_arg7))
      ∧ r.2.sem = fun _ => 0)

def preserves_Kernel_KernelIdeal : Prop :=
  True

def preserves_Tail_TailIdeal : Prop :=
  True

def algebraic_TailIdeal_TailReferenceIdeal [hTailIdeal : Cert.TailIdeal.Facts] [hTailReferenceIdeal : Cert.TailReferenceIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)
      ∧ m' ((c.tc : Thread Cert.TailReferenceIdeal.nD Cert.TailReferenceIdeal.τ).loc Cert.TailReferenceIdeal.main_arg2) = m ((c.tc : Thread Cert.TailIdeal.nD Cert.TailIdeal.τ).loc Cert.TailIdeal.main_arg2)
      ∧ m' ((c.tc : Thread Cert.TailReferenceIdeal.nD Cert.TailReferenceIdeal.τ).loc Cert.TailReferenceIdeal.main_arg3) = m ((c.tc : Thread Cert.TailIdeal.nD Cert.TailIdeal.τ).loc Cert.TailIdeal.main_arg3)
      ∧ m' ((c.tc : Thread Cert.TailReferenceIdeal.nD Cert.TailReferenceIdeal.τ).loc Cert.TailReferenceIdeal.main_arg4) = m ((c.tc : Thread Cert.TailIdeal.nD Cert.TailIdeal.τ).loc Cert.TailIdeal.main_arg4)
      ∧ m' ((c.tc : Thread Cert.TailReferenceIdeal.nD Cert.TailReferenceIdeal.τ).loc Cert.TailReferenceIdeal.main_arg5) = m ((c.tc : Thread Cert.TailIdeal.nD Cert.TailIdeal.τ).loc Cert.TailIdeal.main_arg5)
      ∧ m' ((c.tc : Thread Cert.TailReferenceIdeal.nD Cert.TailReferenceIdeal.τ).loc Cert.TailReferenceIdeal.main_arg6) = m ((c.tc : Thread Cert.TailIdeal.nD Cert.TailIdeal.τ).loc Cert.TailIdeal.main_arg6)
      ∧ m' ((c.tc : Thread Cert.TailReferenceIdeal.nD Cert.TailReferenceIdeal.τ).loc Cert.TailReferenceIdeal.main_arg7) = m ((c.tc : Thread Cert.TailIdeal.nD Cert.TailIdeal.τ).loc Cert.TailIdeal.main_arg7)
      ∧ m' ((c.tc : Thread Cert.TailReferenceIdeal.nD Cert.TailReferenceIdeal.τ).loc Cert.TailReferenceIdeal.main_arg8) = m ((c.tc : Thread Cert.TailIdeal.nD Cert.TailIdeal.τ).loc Cert.TailIdeal.main_arg8)
      ∧ m' ((c.tc : Thread Cert.TailReferenceIdeal.nD Cert.TailReferenceIdeal.τ).loc Cert.TailReferenceIdeal.main_arg9) = m ((c.tc : Thread Cert.TailIdeal.nD Cert.TailIdeal.τ).loc Cert.TailIdeal.main_arg9)
      ∧ m' ((c.tc : Thread Cert.TailReferenceIdeal.nD Cert.TailReferenceIdeal.τ).loc Cert.TailReferenceIdeal.main_arg10) = m ((c.tc : Thread Cert.TailIdeal.nD Cert.TailIdeal.τ).loc Cert.TailIdeal.main_arg10)) →
    ∃ (v0 : (c : Dev Cert.TailIdeal.nD) → Buf (Elt Ideal) ((c.tc : Thread Cert.TailIdeal.nD Cert.TailIdeal.τ).loc Cert.TailIdeal.main_v43)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v43) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v51) = v0 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3)
          ∧ r.2.mem ((c.tc : Thread Cert.TailReferenceIdeal.nD Cert.TailReferenceIdeal.τ).loc Cert.TailReferenceIdeal.main_arg4) = m' ((c.tc : Thread Cert.TailReferenceIdeal.nD Cert.TailReferenceIdeal.τ).loc Cert.TailReferenceIdeal.main_arg4)
          ∧ r.2.mem ((c.tc : Thread Cert.TailReferenceIdeal.nD Cert.TailReferenceIdeal.τ).loc Cert.TailReferenceIdeal.main_arg5) = m' ((c.tc : Thread Cert.TailReferenceIdeal.nD Cert.TailReferenceIdeal.τ).loc Cert.TailReferenceIdeal.main_arg5)
          ∧ r.2.mem ((c.tc : Thread Cert.TailReferenceIdeal.nD Cert.TailReferenceIdeal.τ).loc Cert.TailReferenceIdeal.main_arg6) = m' ((c.tc : Thread Cert.TailReferenceIdeal.nD Cert.TailReferenceIdeal.τ).loc Cert.TailReferenceIdeal.main_arg6)
          ∧ r.2.mem ((c.tc : Thread Cert.TailReferenceIdeal.nD Cert.TailReferenceIdeal.τ).loc Cert.TailReferenceIdeal.main_arg7) = m' ((c.tc : Thread Cert.TailReferenceIdeal.nD Cert.TailReferenceIdeal.τ).loc Cert.TailReferenceIdeal.main_arg7)
          ∧ r.2.mem ((c.tc : Thread Cert.TailReferenceIdeal.nD Cert.TailReferenceIdeal.τ).loc Cert.TailReferenceIdeal.main_arg8) = m' ((c.tc : Thread Cert.TailReferenceIdeal.nD Cert.TailReferenceIdeal.τ).loc Cert.TailReferenceIdeal.main_arg8)
          ∧ r.2.mem ((c.tc : Thread Cert.TailReferenceIdeal.nD Cert.TailReferenceIdeal.τ).loc Cert.TailReferenceIdeal.main_arg9) = m' ((c.tc : Thread Cert.TailReferenceIdeal.nD Cert.TailReferenceIdeal.τ).loc Cert.TailReferenceIdeal.main_arg9)
          ∧ r.2.mem ((c.tc : Thread Cert.TailReferenceIdeal.nD Cert.TailReferenceIdeal.τ).loc Cert.TailReferenceIdeal.main_arg10) = m' ((c.tc : Thread Cert.TailReferenceIdeal.nD Cert.TailReferenceIdeal.τ).loc Cert.TailReferenceIdeal.main_arg10))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)
      ∧ m' ((c.tc : Thread Cert.InProjReferenceIdeal.nD Cert.InProjReferenceIdeal.τ).loc Cert.InProjReferenceIdeal.main_arg4) = m ((c.tc : Thread Cert.InProjIdeal.nD Cert.InProjIdeal.τ).loc Cert.InProjIdeal.main_arg4)
      ∧ m' ((c.tc : Thread Cert.InProjReferenceIdeal.nD Cert.InProjReferenceIdeal.τ).loc Cert.InProjReferenceIdeal.main_arg5) = m ((c.tc : Thread Cert.InProjIdeal.nD Cert.InProjIdeal.τ).loc Cert.InProjIdeal.main_arg5)
      ∧ m' ((c.tc : Thread Cert.InProjReferenceIdeal.nD Cert.InProjReferenceIdeal.τ).loc Cert.InProjReferenceIdeal.main_arg6) = m ((c.tc : Thread Cert.InProjIdeal.nD Cert.InProjIdeal.τ).loc Cert.InProjIdeal.main_arg6)
      ∧ m' ((c.tc : Thread Cert.InProjReferenceIdeal.nD Cert.InProjReferenceIdeal.τ).loc Cert.InProjReferenceIdeal.main_arg7) = m ((c.tc : Thread Cert.InProjIdeal.nD Cert.InProjIdeal.τ).loc Cert.InProjIdeal.main_arg7)) →
    ∃ (v0 : (c : Dev Cert.InProjIdeal.nD) → Buf (Elt Ideal) ((c.tc : Thread Cert.InProjIdeal.nD Cert.InProjIdeal.τ).loc Cert.InProjIdeal.main_v34_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v34_1) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v27) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3)
          ∧ r.2.mem ((c.tc : Thread Cert.InProjReferenceIdeal.nD Cert.InProjReferenceIdeal.τ).loc Cert.InProjReferenceIdeal.main_arg4) = m' ((c.tc : Thread Cert.InProjReferenceIdeal.nD Cert.InProjReferenceIdeal.τ).loc Cert.InProjReferenceIdeal.main_arg4)
          ∧ r.2.mem ((c.tc : Thread Cert.InProjReferenceIdeal.nD Cert.InProjReferenceIdeal.τ).loc Cert.InProjReferenceIdeal.main_arg5) = m' ((c.tc : Thread Cert.InProjReferenceIdeal.nD Cert.InProjReferenceIdeal.τ).loc Cert.InProjReferenceIdeal.main_arg5)
          ∧ r.2.mem ((c.tc : Thread Cert.InProjReferenceIdeal.nD Cert.InProjReferenceIdeal.τ).loc Cert.InProjReferenceIdeal.main_arg6) = m' ((c.tc : Thread Cert.InProjReferenceIdeal.nD Cert.InProjReferenceIdeal.τ).loc Cert.InProjReferenceIdeal.main_arg6)
          ∧ r.2.mem ((c.tc : Thread Cert.InProjReferenceIdeal.nD Cert.InProjReferenceIdeal.τ).loc Cert.InProjReferenceIdeal.main_arg7) = m' ((c.tc : Thread Cert.InProjReferenceIdeal.nD Cert.InProjReferenceIdeal.τ).loc Cert.InProjReferenceIdeal.main_arg7))

def Claim : Prop :=
  ∃ (hKernel : Cert.Kernel.Facts) (hKernelIdeal : Cert.KernelIdeal.Facts) (hTail : Cert.Tail.Facts) (hTailIdeal : Cert.TailIdeal.Facts) (hTailReferenceIdeal : Cert.TailReferenceIdeal.Facts) (hInProj : Cert.InProj.Facts) (hInProjIdeal : Cert.InProjIdeal.Facts) (hInProjReferenceIdeal : Cert.InProjReferenceIdeal.Facts),
    quiescent_Kernel (hKernel := hKernel)
    ∧ quiescent_KernelIdeal (hKernelIdeal := hKernelIdeal)
    ∧ quiescent_Tail (hTail := hTail)
    ∧ quiescent_TailIdeal (hTailIdeal := hTailIdeal)
    ∧ quiescent_TailReferenceIdeal (hTailReferenceIdeal := hTailReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ preserves_Kernel_KernelIdeal
    ∧ preserves_Tail_TailIdeal
    ∧ algebraic_TailIdeal_TailReferenceIdeal (hTailIdeal := hTailIdeal) (hTailReferenceIdeal := hTailReferenceIdeal)
    ∧ preserves_InProj_InProjIdeal
    ∧ algebraic_InProjIdeal_InProjReferenceIdeal (hInProjIdeal := hInProjIdeal) (hInProjReferenceIdeal := hInProjReferenceIdeal)
-- ==== Kernel.lean ====
abbrev S4x128x128x128 : Shape := ⟨4, ![4, 128, 128, 128]⟩
abbrev S512 : Shape := ⟨1, ![512]⟩
abbrev S16x512x512 : Shape := ⟨3, ![16, 512, 512]⟩
abbrev S16x8x512 : Shape := ⟨3, ![16, 8, 512]⟩
abbrev S4x1x128 : Shape := ⟨3, ![4, 1, 128]⟩
abbrev S1x128x128x128 : Shape := ⟨4, ![1, 128, 128, 128]⟩
abbrev S1x1x128 : Shape := ⟨3, ![1, 1, 128]⟩
abbrev S1x512x512 : Shape := ⟨3, ![1, 512, 512]⟩
abbrev S1x8x512 : Shape := ⟨3, ![1, 8, 512]⟩
abbrev S1024x512 : Shape := ⟨2, ![1024, 512]⟩
abbrev S256x128 : Shape := ⟨2, ![256, 128]⟩
abbrev S1x32x8x128 : Shape := ⟨4, ![1, 32, 8, 128]⟩
abbrev S32x8x128 : Shape := ⟨3, ![32, 8, 128]⟩
abbrev S512x512 : Shape := ⟨2, ![512, 512]⟩
abbrev S1x8x128 : Shape := ⟨3, ![1, 8, 128]⟩
abbrev S8x128 : Shape := ⟨2, ![8, 128]⟩
abbrev S1x128 : Shape := ⟨2, ![1, 128]⟩
abbrev S1x1x8x128 : Shape := ⟨4, ![1, 1, 8, 128]⟩

abbrev nBuf : Space → Nat
  | .hbm => 8
  | .vmem => 17
  | .smem => 0
  | _ => 0

abbrev bufTy : (tb : Table) → Fin (tcTables nBuf tb) → BufTy
  | .hbm, ⟨0, _⟩ => ⟨S4x128x128x128, .f32⟩
  | .hbm, ⟨1, _⟩ => ⟨S512, .f32⟩
  | .hbm, ⟨2, _⟩ => ⟨S16x512x512, .bf16⟩
  | .hbm, ⟨3, _⟩ => ⟨S16x512x512, .bf16⟩
  | .hbm, ⟨4, _⟩ => ⟨S16x512x512, .bf16⟩
  | .hbm, ⟨5, _⟩ => ⟨S16x8x512, .f32⟩
  | .hbm, ⟨6, _⟩ => ⟨S4x1x128, .f32⟩
  | .hbm, ⟨7, _⟩ => ⟨S4x128x128x128, .f32⟩
  | .local _ .vmem, ⟨0, _⟩ => ⟨S1x128x128x128, .f32⟩
  | .local _ .vmem, ⟨1, _⟩ => ⟨S1x128x128x128, .f32⟩
  | .local _ .vmem, ⟨2, _⟩ => ⟨S1x1x128, .f32⟩
  | .local _ .vmem, ⟨3, _⟩ => ⟨S1x1x128, .f32⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x8x512, .f32⟩
  | .local _ .vmem, ⟨11, _⟩ => ⟨S1x8x512, .f32⟩
  | .local _ .vmem, ⟨12, _⟩ => ⟨S1x128x128x128, .f32⟩
  | .local _ .vmem, ⟨13, _⟩ => ⟨S1x128x128x128, .f32⟩
  | .local _ .vmem, ⟨14, _⟩ => ⟨S1024x512, .bf16⟩
  | .local _ .vmem, ⟨15, _⟩ => ⟨S1024x512, .f32⟩
  | .local _ .vmem, ⟨16, _⟩ => ⟨S1024x512, .f32⟩
  | _, _ => ⟨S4x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32_4 : BitVec 32 := 0#32
  let c4_i32 : BitVec 32 := 4#32
  let v25 : BitVec 32 := Scalar.addi c0_i32_4 c4_i32
  let c1_i32_5 : BitVec 32 := 1#32
  ⟨c0_i32_4, v25, c1_i32_5⟩
def k0_mult1 (k0_t1 : Fin k0_t1_loop.trips) : BitVec 32 :=
  let c0_i32_4 : BitVec 32 := 0#32
  let c1_i32_5 : BitVec 32 := 1#32
  let arg12 : BitVec 32 := Scf.iv c0_i32_4 c1_i32_5 k0_t1
  let c32_i32_46 : BitVec 32 := 32#32
  let v64 : BitVec 32 := Scalar.muli arg12 c32_i32_46
  v64
def k0_mult2 (k0_t1 : Fin k0_t1_loop.trips) : BitVec 32 :=
  let c0_i32_4 : BitVec 32 := 0#32
  let c1_i32_5 : BitVec 32 := 1#32
  let arg12 : BitVec 32 := Scf.iv c0_i32_4 c1_i32_5 k0_t1
  let c256_i32 : BitVec 32 := 256#32
  let v66 : BitVec 32 := Scalar.muli arg12 c256_i32
  v66
def k0_off1 (k0_t1 : Fin k0_t1_loop.trips) : Fin 4 → Nat :=
  let c0_47 : Index := 0#32
  let c0_i32_4 : BitVec 32 := 0#32
  let c1_i32_5 : BitVec 32 := 1#32
  let arg12 : BitVec 32 := Scf.iv c0_i32_4 c1_i32_5 k0_t1
  let c32_i32_46 : BitVec 32 := 32#32
  let v64 : BitVec 32 := Scalar.muli arg12 c32_i32_46
  let v65 : BitVec 32 := v64
  let v68 : Index := Scalar.indexCast v65
  let c0_48 : Index := 0#32
  let c0_49 : Index := 0#32
  ![0, v68.toNat, 0, 0]
def k0_off2 (k0_t1 : Fin k0_t1_loop.trips) : Fin 4 → Nat :=
  let c0_50 : Index := 0#32
  let c0_i32_4 : BitVec 32 := 0#32
  let c1_i32_5 : BitVec 32 := 1#32
  let arg12 : BitVec 32 := Scf.iv c0_i32_4 c1_i32_5 k0_t1
  let c32_i32_46 : BitVec 32 := 32#32
  let v64 : BitVec 32 := Scalar.muli arg12 c32_i32_46
  let v65 : BitVec 32 := v64
  let v72 : Index := Scalar.indexCast v65
  let c8 : Index := 8#32
  let c0_51 : Index := 0#32
  ![0, v72.toNat, 8, 0]
def k0_off3 (k0_t1 : Fin k0_t1_loop.trips) : Fin 4 → Nat :=
  let c0_59 : Index := 0#32
  let c0_i32_4 : BitVec 32 := 0#32
  let c1_i32_5 : BitVec 32 := 1#32
  let arg12 : BitVec 32 := Scf.iv c0_i32_4 c1_i32_5 k0_t1
  let c32_i32_46 : BitVec 32 := 32#32
  let v64 : BitVec 32 := Scalar.muli arg12 c32_i32_46
  let v65 : BitVec 32 := v64
  let v90 : Index := Scalar.indexCast v65
  let c16 : Index := 16#32
  let c0_60 : Index := 0#32
  ![0, v90.toNat, 16, 0]
def k0_off4 (k0_t1 : Fin k0_t1_loop.trips) : Fin 4 → Nat :=
  let c0_67 : Index := 0#32
  let c0_i32_4 : BitVec 32 := 0#32
  let c1_i32_5 : BitVec 32 := 1#32
  let arg12 : BitVec 32 := Scf.iv c0_i32_4 c1_i32_5 k0_t1
  let c32_i32_46 : BitVec 32 := 32#32
  let v64 : BitVec 32 := Scalar.muli arg12 c32_i32_46
  let v65 : BitVec 32 := v64
  let v108 : Index := Scalar.indexCast v65
  let c24 : Index := 24#32
  let c0_68 : Index := 0#32
  ![0, v108.toNat, 24, 0]
def k0_off5 (k0_t1 : Fin k0_t1_loop.trips) : Fin 2 → Nat :=
  let c0_i32_4 : BitVec 32 := 0#32
  let c1_i32_5 : BitVec 32 := 1#32
  let arg12 : BitVec 32 := Scf.iv c0_i32_4 c1_i32_5 k0_t1
  let c256_i32 : BitVec 32 := 256#32
  let v66 : BitVec 32 := Scalar.muli arg12 c256_i32
  let v67 : BitVec 32 := v66
  let v140 : Index := Scalar.indexCast v67
  let c0_83 : Index := 0#32
  ![v140.toNat, 0]
def k0_off6 (k0_t1 : Fin k0_t1_loop.trips) : Fin 4 → Nat :=
  let c0_84 : Index := 0#32
  let c0_i32_4 : BitVec 32 := 0#32
  let c1_i32_5 : BitVec 32 := 1#32
  let arg12 : BitVec 32 := Scf.iv c0_i32_4 c1_i32_5 k0_t1
  let c32_i32_46 : BitVec 32 := 32#32
  let v64 : BitVec 32 := Scalar.muli arg12 c32_i32_46
  let v65 : BitVec 32 := v64
  let v144 : Index := Scalar.indexCast v65
  let c32 : Index := 32#32
  let c0_85 : Index := 0#32
  ![0, v144.toNat, 32, 0]
def k0_off7 (k0_t1 : Fin k0_t1_loop.trips) : Fin 4 → Nat :=
  let c0_86 : Index := 0#32
  let c0_i32_4 : BitVec 32 := 0#32
  let c1_i32_5 : BitVec 32 := 1#32
  let arg12 : BitVec 32 := Scf.iv c0_i32_4 c1_i32_5 k0_t1
  let c32_i32_46 : BitVec 32 := 32#32
  let v64 : BitVec 32 := Scalar.muli arg12 c32_i32_46
  let v65 : BitVec 32 := v64
  let v148 : Index := Scalar.indexCast v65
  let c40 : Index := 40#32
  let c0_87 : Index := 0#32
  ![0, v148.toNat, 40, 0]
def k0_off8 (k0_t1 : Fin k0_t1_loop.trips) : Fin 4 → Nat :=
  let c0_95 : Index := 0#32
  let c0_i32_4 : BitVec 32 := 0#32
  let c1_i32_5 : BitVec 32 := 1#32
  let arg12 : BitVec 32 := Scf.iv c0_i32_4 c1_i32_5 k0_t1
  let c32_i32_46 : BitVec 32 := 32#32
  let v64 : BitVec 32 := Scalar.muli arg12 c32_i32_46
  let v65 : BitVec 32 := v64
  let v166 : Index := Scalar.indexCast v65
  let c48 : Index := 48#32
  let c0_96 : Index := 0#32
  ![0, v166.toNat, 48, 0]
def k0_off9 (k0_t1 : Fin k0_t1_loop.trips) : Fin 4 → Nat :=
  let c0_104 : Index := 0#32
  let c0_i32_4 : BitVec 32 := 0#32
  let c1_i32_5 : BitVec 32 := 1#32
  let arg12 : BitVec 32 := Scf.iv c0_i32_4 c1_i32_5 k0_t1
  let c32_i32_46 : BitVec 32 := 32#32
  let v64 : BitVec 32 := Scalar.muli arg12 c32_i32_46
  let v65 : BitVec 32 := v64
  let v184 : Index := Scalar.indexCast v65
  let c56 : Index := 56#32
  let c0_105 : Index := 0#32
  ![0, v184.toNat, 56, 0]
def k0_off10 (k0_t1 : Fin k0_t1_loop.trips) : Fin 2 → Nat :=
  let c0_i32_4 : BitVec 32 := 0#32
  let c1_i32_5 : BitVec 32 := 1#32
  let arg12 : BitVec 32 := Scf.iv c0_i32_4 c1_i32_5 k0_t1
  let c256_i32 : BitVec 32 := 256#32
  let v66 : BitVec 32 := Scalar.muli arg12 c256_i32
  let v67 : BitVec 32 := v66
  let v216 : Index := Scalar.indexCast v67
  let c128_121 : Index := 128#32
  ![v216.toNat, 128]
def k0_off11 (k0_t1 : Fin k0_t1_loop.trips) : Fin 4 → Nat :=
  let c0_122 : Index := 0#32
  let c0_i32_4 : BitVec 32 := 0#32
  let c1_i32_5 : BitVec 32 := 1#32
  let arg12 : BitVec 32 := Scf.iv c0_i32_4 c1_i32_5 k0_t1
  let c32_i32_46 : BitVec 32 := 32#32
  let v64 : BitVec 32 := Scalar.muli arg12 c32_i32_46
  let v65 : BitVec 32 := v64
  let v220 : Index := Scalar.indexCast v65
  let c64 : Index := 64#32
  let c0_123 : Index := 0#32
  ![0, v220.toNat, 64, 0]
def k0_off12 (k0_t1 : Fin k0_t1_loop.trips) : Fin 4 → Nat :=
  let c0_124 : Index := 0#32
  let c0_i32_4 : BitVec 32 := 0#32
  let c1_i32_5 : BitVec 32 := 1#32
  let arg12 : BitVec 32 := Scf.iv c0_i32_4 c1_i32_5 k0_t1
  let c32_i32_46 : BitVec 32 := 32#32
  let v64 : BitVec 32 := Scalar.muli arg12 c32_i32_46
  let v65 : BitVec 32 := v64
  let v224 : Index := Scalar.indexCast v65
  let c72 : Index := 72#32
  let c0_125 : Index := 0#32
  ![0, v224.toNat, 72, 0]
def k0_off13 (k0_t1 : Fin k0_t1_loop.trips) : Fin 4 → Nat :=
  let c0_133 : Index := 0#32
  let c0_i32_4 : BitVec 32 := 0#32
  let c1_i32_5 : BitVec 32 := 1#32
  let arg12 : BitVec 32 := Scf.iv c0_i32_4 c1_i32_5 k0_t1
  let c32_i32_46 : BitVec 32 := 32#32
  let v64 : BitVec 32 := Scalar.muli arg12 c32_i32_46
  let v65 : BitVec 32 := v64
  let v242 : Index := Scalar.indexCast v65
  let c80 : Index := 80#32
  let c0_134 : Index := 0#32
  ![0, v242.toNat, 80, 0]
def k0_off14 (k0_t1 : Fin k0_t1_loop.trips) : Fin 4 → Nat :=
  let c0_142 : Index := 0#32
  let c0_i32_4 : BitVec 32 := 0#32
  let c1_i32_5 : BitVec 32 := 1#32
  let arg12 : BitVec 32 := Scf.iv c0_i32_4 c1_i32_5 k0_t1
  let c32_i32_46 : BitVec 32 := 32#32
  let v64 : BitVec 32 := Scalar.muli arg12 c32_i32_46
  let v65 : BitVec 32 := v64
  let v260 : Index := Scalar.indexCast v65
  let c88 : Index := 88#32
  let c0_143 : Index := 0#32
  ![0, v260.toNat, 88, 0]
def k0_off15 (k0_t1 : Fin k0_t1_loop.trips) : Fin 2 → Nat :=
  let c0_i32_4 : BitVec 32 := 0#32
  let c1_i32_5 : BitVec 32 := 1#32
  let arg12 : BitVec 32 := Scf.iv c0_i32_4 c1_i32_5 k0_t1
  let c256_i32 : BitVec 32 := 256#32
  let v66 : BitVec 32 := Scalar.muli arg12 c256_i32
  let v67 : BitVec 32 := v66
  let v292 : Index := Scalar.indexCast v67
  let c256_159 : Index := 256#32
  ![v292.toNat, 256]
def k0_off16 (k0_t1 : Fin k0_t1_loop.trips) : Fin 4 → Nat :=
  let c0_160 : Index := 0#32
  let c0_i32_4 : BitVec 32 := 0#32
  let c1_i32_5 : BitVec 32 := 1#32
  let arg12 : BitVec 32 := Scf.iv c0_i32_4 c1_i32_5 k0_t1
  let c32_i32_46 : BitVec 32 := 32#32
  let v64 : BitVec 32 := Scalar.muli arg12 c32_i32_46
  let v65 : BitVec 32 := v64
  let v296 : Index := Scalar.indexCast v65
  let c96 : Index := 96#32
  let c0_161 : Index := 0#32
  ![0, v296.toNat, 96, 0]
def k0_off17 (k0_t1 : Fin k0_t1_loop.trips) : Fin 4 → Nat :=
  let c0_162 : Index := 0#32
  let c0_i32_4 : BitVec 32 := 0#32
  let c1_i32_5 : BitVec 32 := 1#32
  let arg12 : BitVec 32 := Scf.iv c0_i32_4 c1_i32_5 k0_t1
  let c32_i32_46 : BitVec 32 := 32#32
  let v64 : BitVec 32 := Scalar.muli arg12 c32_i32_46
  let v65 : BitVec 32 := v64
  let v300 : Index := Scalar.indexCast v65
  let c104 : Index := 104#32
  let c0_163 : Index := 0#32
  ![0, v300.toNat, 104, 0]
def k0_off18 (k0_t1 : Fin k0_t1_loop.trips) : Fin 4 → Nat :=
  let c0_171 : Index := 0#32
  let c0_i32_4 : BitVec 32 := 0#32
  let c1_i32_5 : BitVec 32 := 1#32
  let arg12 : BitVec 32 := Scf.iv c0_i32_4 c1_i32_5 k0_t1
  let c32_i32_46 : BitVec 32 := 32#32
  let v64 : BitVec 32 := Scalar.muli arg12 c32_i32_46
  let v65 : BitVec 32 := v64
  let v318 : Index := Scalar.indexCast v65
  let c112 : Index := 112#32
  let c0_172 : Index := 0#32
  ![0, v318.toNat, 112, 0]
def k0_off19 (k0_t1 : Fin k0_t1_loop.trips) : Fin 4 → Nat :=
  let c0_180 : Index := 0#32
  let c0_i32_4 : BitVec 32 := 0#32
  let c1_i32_5 : BitVec 32 := 1#32
  let arg12 : BitVec 32 := Scf.iv c0_i32_4 c1_i32_5 k0_t1
  let c32_i32_46 : BitVec 32 := 32#32
  let v64 : BitVec 32 := Scalar.muli arg12 c32_i32_46
  let v65 : BitVec 32 := v64
  let v336 : Index := Scalar.indexCast v65
  let c120 : Index := 120#32
  let c0_181 : Index := 0#32
  ![0, v336.toNat, 120, 0]
def k0_off20 (k0_t1 : Fin k0_t1_loop.trips) : Fin 2 → Nat :=
  let c0_i32_4 : BitVec 32 := 0#32
  let c1_i32_5 : BitVec 32 := 1#32
  let arg12 : BitVec 32 := Scf.iv c0_i32_4 c1_i32_5 k0_t1
  let c256_i32 : BitVec 32 := 256#32
  let v66 : BitVec 32 := Scalar.muli arg12 c256_i32
  let v67 : BitVec 32 := v66
  let v368 : Index := Scalar.indexCast v67
  let c384_197 : Index := 384#32
  ![v368.toNat, 384]
@[reducible] def k0_t2_loop : Scf.Loop 32 :=
  let c0_i32_23 : BitVec 32 := 0#32
  let c16_i32 : BitVec 32 := 16#32
  let v42 : BitVec 32 := Scalar.addi c0_i32_23 c16_i32
  let c1_i32_24 : BitVec 32 := 1#32
  ⟨c0_i32_23, v42, c1_i32_24⟩
def k0_mult3 (k0_t2 : Fin k0_t2_loop.trips) : BitVec 32 :=
  let c0_i32_23 : BitVec 32 := 0#32
  let c1_i32_24 : BitVec 32 := 1#32
  let arg12 : BitVec 32 := Scf.iv c0_i32_23 c1_i32_24 k0_t2
  let c64_i32_46 : BitVec 32 := 64#32
  let v64 : BitVec 32 := Scalar.muli arg12 c64_i32_46
  v64
def k0_mult4 (k0_t2 : Fin k0_t2_loop.trips) : BitVec 32 :=
  let c128_i32 : BitVec 32 := 128#32
  let c0_i32_23 : BitVec 32 := 0#32
  let c1_i32_24 : BitVec 32 := 1#32
  let arg12 : BitVec 32 := Scf.iv c0_i32_23 c1_i32_24 k0_t2
  let c1_i32_47 : BitVec 32 := 1#32
  let v66 : BitVec 32 := Scalar.addi arg12 c1_i32_47
  let c8_i32 : BitVec 32 := 8#32
  let v67 : BitVec 32 := Scalar.muli v66 c8_i32
  let v68 : BitVec 32 := Scalar.subi c128_i32 v67
  let c8_i32_48 : BitVec 32 := 8#32
  let v69 : BitVec 32 := Scalar.muli v68 c8_i32_48
  v69
def k0_off21 (k0_t2 : Fin k0_t2_loop.trips) (c0_i32_49 : BitVec 32) : Fin 2 → Nat :=
  let c0_i32_23 : BitVec 32 := 0#32
  let c1_i32_24 : BitVec 32 := 1#32
  let arg12 : BitVec 32 := Scf.iv c0_i32_23 c1_i32_24 k0_t2
  let c64_i32_46 : BitVec 32 := 64#32
  let v64 : BitVec 32 := Scalar.muli arg12 c64_i32_46
  let v65 : BitVec 32 := v64
  let v71 : BitVec 32 := Scalar.addi v65 c0_i32_49
  let v73 : Index := Scalar.indexCast v71
  let c0_50 : Index := 0#32
  ![v73.toNat, 0]
def k0_off22 (k0_t2 : Fin k0_t2_loop.trips) (c0_i32_49 : BitVec 32) : Fin 2 → Nat :=
  let c0_i32_23 : BitVec 32 := 0#32
  let c1_i32_24 : BitVec 32 := 1#32
  let arg12 : BitVec 32 := Scf.iv c0_i32_23 c1_i32_24 k0_t2
  let c64_i32_46 : BitVec 32 := 64#32
  let v64 : BitVec 32 := Scalar.muli arg12 c64_i32_46
  let v65 : BitVec 32 := v64
  let v71 : BitVec 32 := Scalar.addi v65 c0_i32_49
  let v77 : Index := Scalar.indexCast v71
  let c128_51 : Index := 128#32
  ![v77.toNat, 128]
def k0_off23 (k0_t2 : Fin k0_t2_loop.trips) (c56_i32 : BitVec 32) : Fin 2 → Nat :=
  let c128_i32 : BitVec 32 := 128#32
  let c0_i32_23 : BitVec 32 := 0#32
  let c1_i32_24 : BitVec 32 := 1#32
  let arg12 : BitVec 32 := Scf.iv c0_i32_23 c1_i32_24 k0_t2
  let c1_i32_47 : BitVec 32 := 1#32
  let v66 : BitVec 32 := Scalar.addi arg12 c1_i32_47
  let c8_i32 : BitVec 32 := 8#32
  let v67 : BitVec 32 := Scalar.muli v66 c8_i32
  let v68 : BitVec 32 := Scalar.subi c128_i32 v67
  let c8_i32_48 : BitVec 32 := 8#32
  let v69 : BitVec 32 := Scalar.muli v68 c8_i32_48
  let v70 : BitVec 32 := v69
  let v72 : BitVec 32 := Scalar.addi v70 c56_i32
  let v81 : Index := Scalar.indexCast v72
  let c256_52 : Index := 256#32
  ![v81.toNat, 256]
def k0_off24 (k0_t2 : Fin k0_t2_loop.trips) (c56_i32 : BitVec 32) : Fin 2 → Nat :=
  let c128_i32 : BitVec 32 := 128#32
  let c0_i32_23 : BitVec 32 := 0#32
  let c1_i32_24 : BitVec 32 := 1#32
  let arg12 : BitVec 32 := Scf.iv c0_i32_23 c1_i32_24 k0_t2
  let c1_i32_47 : BitVec 32 := 1#32
  let v66 : BitVec 32 := Scalar.addi arg12 c1_i32_47
  let c8_i32 : BitVec 32 := 8#32
  let v67 : BitVec 32 := Scalar.muli v66 c8_i32
  let v68 : BitVec 32 := Scalar.subi c128_i32 v67
  let c8_i32_48 : BitVec 32 := 8#32
  let v69 : BitVec 32 := Scalar.muli v68 c8_i32_48
  let v70 : BitVec 32 := v69
  let v72 : BitVec 32 := Scalar.addi v70 c56_i32
  let v85 : Index := Scalar.indexCast v72
  let c384_53 : Index := 384#32
  ![v85.toNat, 384]
@[reducible] def k0_t3_loop : Scf.Loop 32 :=
  let c0_i32_42 : BitVec 32 := 0#32
  let c4_i32_43 : BitVec 32 := 4#32
  let v63 : BitVec 32 := Scalar.addi c0_i32_42 c4_i32_43
  let c1_i32_44 : BitVec 32 := 1#32
  ⟨c0_i32_42, v63, c1_i32_44⟩
def k0_mult5 (k0_t3 : Fin k0_t3_loop.trips) : BitVec 32 :=
  let c0_i32_42 : BitVec 32 := 0#32
  let c1_i32_44 : BitVec 32 := 1#32
  let arg12 : BitVec 32 := Scf.iv c0_i32_42 c1_i32_44 k0_t3
  let c32_i32_46 : BitVec 32 := 32#32
  let v64 : BitVec 32 := Scalar.muli arg12 c32_i32_46
  v64
def k0_mult6 (k0_t3 : Fin k0_t3_loop.trips) : BitVec 32 :=
  let c0_i32_42 : BitVec 32 := 0#32
  let c1_i32_44 : BitVec 32 := 1#32
  let arg12 : BitVec 32 := Scf.iv c0_i32_42 c1_i32_44 k0_t3
  let c256_i32 : BitVec 32 := 256#32
  let v66 : BitVec 32 := Scalar.muli arg12 c256_i32
  v66
def k0_off25 (k0_t3 : Fin k0_t3_loop.trips) : Fin 2 → Nat :=
  let c0_i32_42 : BitVec 32 := 0#32
  let c1_i32_44 : BitVec 32 := 1#32
  let arg12 : BitVec 32 := Scf.iv c0_i32_42 c1_i32_44 k0_t3
  let c256_i32 : BitVec 32 := 256#32
  let v66 : BitVec 32 := Scalar.muli arg12 c256_i32
  let v67 : BitVec 32 := v66
  let v68 : Index := Scalar.indexCast v67
  let c0_47 : Index := 0#32
  ![v68.toNat, 0]
def k0_off26 (k0_t3 : Fin k0_t3_loop.trips) : Fin 4 → Nat :=
  let c0_56 : Index := 0#32
  let c0_i32_42 : BitVec 32 := 0#32
  let c1_i32_44 : BitVec 32 := 1#32
  let arg12 : BitVec 32 := Scf.iv c0_i32_42 c1_i32_44 k0_t3
  let c32_i32_46 : BitVec 32 := 32#32
  let v64 : BitVec 32 := Scalar.muli arg12 c32_i32_46
  let v65 : BitVec 32 := v64
  let v87 : Index := Scalar.indexCast v65
  let c0_57 : Index := 0#32
  let c0_58 : Index := 0#32
  ![0, v87.toNat, 0, 0]
def k0_off27 (k0_t3 : Fin k0_t3_loop.trips) : Fin 4 → Nat :=
  let c0_69 : Index := 0#32
  let c0_i32_42 : BitVec 32 := 0#32
  let c1_i32_44 : BitVec 32 := 1#32
  let arg12 : BitVec 32 := Scf.iv c0_i32_42 c1_i32_44 k0_t3
  let c32_i32_46 : BitVec 32 := 32#32
  let v64 : BitVec 32 := Scalar.muli arg12 c32_i32_46
  let v65 : BitVec 32 := v64
  let v112 : Index := Scalar.indexCast v65
  let c8 : Index := 8#32
  let c0_70 : Index := 0#32
  ![0, v112.toNat, 8, 0]
def k0_off28 (k0_t3 : Fin k0_t3_loop.trips) : Fin 4 → Nat :=
  let c0_80 : Index := 0#32
  let c0_i32_42 : BitVec 32 := 0#32
  let c1_i32_44 : BitVec 32 := 1#32
  let arg12 : BitVec 32 := Scf.iv c0_i32_42 c1_i32_44 k0_t3
  let c32_i32_46 : BitVec 32 := 32#32
  let v64 : BitVec 32 := Scalar.muli arg12 c32_i32_46
  let v65 : BitVec 32 := v64
  let v137 : Index := Scalar.indexCast v65
  let c16 : Index := 16#32
  let c0_81 : Index := 0#32
  ![0, v137.toNat, 16, 0]
def k0_off29 (k0_t3 : Fin k0_t3_loop.trips) : Fin 4 → Nat :=
  let c0_91 : Index := 0#32
  let c0_i32_42 : BitVec 32 := 0#32
  let c1_i32_44 : BitVec 32 := 1#32
  let arg12 : BitVec 32 := Scf.iv c0_i32_42 c1_i32_44 k0_t3
  let c32_i32_46 : BitVec 32 := 32#32
  let v64 : BitVec 32 := Scalar.muli arg12 c32_i32_46
  let v65 : BitVec 32 := v64
  let v162 : Index := Scalar.indexCast v65
  let c24 : Index := 24#32
  let c0_92 : Index := 0#32
  ![0, v162.toNat, 24, 0]
def k0_off30 (k0_t3 : Fin k0_t3_loop.trips) : Fin 2 → Nat :=
  let c0_i32_42 : BitVec 32 := 0#32
  let c1_i32_44 : BitVec 32 := 1#32
  let arg12 : BitVec 32 := Scf.iv c0_i32_42 c1_i32_44 k0_t3
  let c256_i32 : BitVec 32 := 256#32
  let v66 : BitVec 32 := Scalar.muli arg12 c256_i32
  let v67 : BitVec 32 := v66
  let v173 : Index := Scalar.indexCast v67
  let c128_96 : Index := 128#32
  ![v173.toNat, 128]
def k0_off31 (k0_t3 : Fin k0_t3_loop.trips) : Fin 4 → Nat :=
  let c0_105 : Index := 0#32
  let c0_i32_42 : BitVec 32 := 0#32
  let c1_i32_44 : BitVec 32 := 1#32
  let arg12 : BitVec 32 := Scf.iv c0_i32_42 c1_i32_44 k0_t3
  let c32_i32_46 : BitVec 32 := 32#32
  let v64 : BitVec 32 := Scalar.muli arg12 c32_i32_46
  let v65 : BitVec 32 := v64
  let v192 : Index := Scalar.indexCast v65
  let c32 : Index := 32#32
  let c0_106 : Index := 0#32
  ![0, v192.toNat, 32, 0]
def k0_off32 (k0_t3 : Fin k0_t3_loop.trips) : Fin 4 → Nat :=
  let c0_117 : Index := 0#32
  let c0_i32_42 : BitVec 32 := 0#32
  let c1_i32_44 : BitVec 32 := 1#32
  let arg12 : BitVec 32 := Scf.iv c0_i32_42 c1_i32_44 k0_t3
  let c32_i32_46 : BitVec 32 := 32#32
  let v64 : BitVec 32 := Scalar.muli arg12 c32_i32_46
  let v65 : BitVec 32 := v64
  let v217 : Index := Scalar.indexCast v65
  let c40 : Index := 40#32
  let c0_118 : Index := 0#32
  ![0, v217.toNat, 40, 0]
def k0_off33 (k0_t3 : Fin k0_t3_loop.trips) : Fin 4 → Nat :=
  let c0_129 : Index := 0#32
  let c0_i32_42 : BitVec 32 := 0#32
  let c1_i32_44 : BitVec 32 := 1#32
  let arg12 : BitVec 32 := Scf.iv c0_i32_42 c1_i32_44 k0_t3
  let c32_i32_46 : BitVec 32 := 32#32
  let v64 : BitVec 32 := Scalar.muli arg12 c32_i32_46
  let v65 : BitVec 32 := v64
  let v242 : Index := Scalar.indexCast v65
  let c48 : Index := 48#32
  let c0_130 : Index := 0#32
  ![0, v242.toNat, 48, 0]
def k0_off34 (k0_t3 : Fin k0_t3_loop.trips) : Fin 4 → Nat :=
  let c0_141 : Index := 0#32
  let c0_i32_42 : BitVec 32 := 0#32
  let c1_i32_44 : BitVec 32 := 1#32
  let arg12 : BitVec 32 := Scf.iv c0_i32_42 c1_i32_44 k0_t3
  let c32_i32_46 : BitVec 32 := 32#32
  let v64 : BitVec 32 := Scalar.muli arg12 c32_i32_46
  let v65 : BitVec 32 := v64
  let v267 : Index := Scalar.indexCast v65
  let c56 : Index := 56#32
  let c0_142 : Index := 0#32
  ![0, v267.toNat, 56, 0]
def k0_off35 (k0_t3 : Fin k0_t3_loop.trips) : Fin 2 → Nat :=
  let c0_i32_42 : BitVec 32 := 0#32
  let c1_i32_44 : BitVec 32 := 1#32
  let arg12 : BitVec 32 := Scf.iv c0_i32_42 c1_i32_44 k0_t3
  let c256_i32 : BitVec 32 := 256#32
  let v66 : BitVec 32 := Scalar.muli arg12 c256_i32
  let v67 : BitVec 32 := v66
  let v278 : Index := Scalar.indexCast v67
  let c256_146 : Index := 256#32
  ![v278.toNat, 256]
def k0_off36 (k0_t3 : Fin k0_t3_loop.trips) : Fin 4 → Nat :=
  let c0_155 : Index := 0#32
  let c0_i32_42 : BitVec 32 := 0#32
  let c1_i32_44 : BitVec 32 := 1#32
  let arg12 : BitVec 32 := Scf.iv c0_i32_42 c1_i32_44 k0_t3
  let c32_i32_46 : BitVec 32 := 32#32
  let v64 : BitVec 32 := Scalar.muli arg12 c32_i32_46
  let v65 : BitVec 32 := v64
  let v297 : Index := Scalar.indexCast v65
  let c64 : Index := 64#32
  let c0_156 : Index := 0#32
  ![0, v297.toNat, 64, 0]
def k0_off37 (k0_t3 : Fin k0_t3_loop.trips) : Fin 4 → Nat :=
  let c0_167 : Index := 0#32
  let c0_i32_42 : BitVec 32 := 0#32
  let c1_i32_44 : BitVec 32 := 1#32
  let arg12 : BitVec 32 := Scf.iv c0_i32_42 c1_i32_44 k0_t3
  let c32_i32_46 : BitVec 32 := 32#32
  let v64 : BitVec 32 := Scalar.muli arg12 c32_i32_46
  let v65 : BitVec 32 := v64
  let v322 : Index := Scalar.indexCast v65
  let c72 : Index := 72#32
  let c0_168 : Index := 0#32
  ![0, v322.toNat, 72, 0]
def k0_off38 (k0_t3 : Fin k0_t3_loop.trips) : Fin 4 → Nat :=
  let c0_179 : Index := 0#32
  let c0_i32_42 : BitVec 32 := 0#32
  let c1_i32_44 : BitVec 32 := 1#32
  let arg12 : BitVec 32 := Scf.iv c0_i32_42 c1_i32_44 k0_t3
  let c32_i32_46 : BitVec 32 := 32#32
  let v64 : BitVec 32 := Scalar.muli arg12 c32_i32_46
  let v65 : BitVec 32 := v64
  let v347 : Index := Scalar.indexCast v65
  let c80 : Index := 80#32
  let c0_180 : Index := 0#32
  ![0, v347.toNat, 80, 0]
def k0_off39 (k0_t3 : Fin k0_t3_loop.trips) : Fin 4 → Nat :=
  let c0_191 : Index := 0#32
  let c0_i32_42 : BitVec 32 := 0#32
  let c1_i32_44 : BitVec 32 := 1#32
  let arg12 : BitVec 32 := Scf.iv c0_i32_42 c1_i32_44 k0_t3
  let c32_i32_46 : BitVec 32 := 32#32
  let v64 : BitVec 32 := Scalar.muli arg12 c32_i32_46
  let v65 : BitVec 32 := v64
  let v372 : Index := Scalar.indexCast v65
  let c88 : Index := 88#32
  let c0_192 : Index := 0#32
  ![0, v372.toNat, 88, 0]
def k0_off40 (k0_t3 : Fin k0_t3_loop.trips) : Fin 2 → Nat :=
  let c0_i32_42 : BitVec 32 := 0#32
  let c1_i32_44 : BitVec 32 := 1#32
  let arg12 : BitVec 32 := Scf.iv c0_i32_42 c1_i32_44 k0_t3
  let c256_i32 : BitVec 32 := 256#32
  let v66 : BitVec 32 := Scalar.muli arg12 c256_i32
  let v67 : BitVec 32 := v66
  let v383 : Index := Scalar.indexCast v67
  let c384_196 : Index := 384#32
  ![v383.toNat, 384]
def k0_off41 (k0_t3 : Fin k0_t3_loop.trips) : Fin 4 → Nat :=
  let c0_205 : Index := 0#32
  let c0_i32_42 : BitVec 32 := 0#32
  let c1_i32_44 : BitVec 32 := 1#32
  let arg12 : BitVec 32 := Scf.iv c0_i32_42 c1_i32_44 k0_t3
  let c32_i32_46 : BitVec 32 := 32#32
  let v64 : BitVec 32 := Scalar.muli arg12 c32_i32_46
  let v65 : BitVec 32 := v64
  let v402 : Index := Scalar.indexCast v65
  let c96 : Index := 96#32
  let c0_206 : Index := 0#32
  ![0, v402.toNat, 96, 0]
def k0_off42 (k0_t3 : Fin k0_t3_loop.trips) : Fin 4 → Nat :=
  let c0_217 : Index := 0#32
  let c0_i32_42 : BitVec 32 := 0#32
  let c1_i32_44 : BitVec 32 := 1#32
  let arg12 : BitVec 32 := Scf.iv c0_i32_42 c1_i32_44 k0_t3
  let c32_i32_46 : BitVec 32 := 32#32
  let v64 : BitVec 32 := Scalar.muli arg12 c32_i32_46
  let v65 : BitVec 32 := v64
  let v427 : Index := Scalar.indexCast v65
  let c104 : Index := 104#32
  let c0_218 : Index := 0#32
  ![0, v427.toNat, 104, 0]
def k0_off43 (k0_t3 : Fin k0_t3_loop.trips) : Fin 4 → Nat :=
  let c0_229 : Index := 0#32
  let c0_i32_42 : BitVec 32 := 0#32
  let c1_i32_44 : BitVec 32 := 1#32
  let arg12 : BitVec 32 := Scf.iv c0_i32_42 c1_i32_44 k0_t3
  let c32_i32_46 : BitVec 32 := 32#32
  let v64 : BitVec 32 := Scalar.muli arg12 c32_i32_46
  let v65 : BitVec 32 := v64
  let v452 : Index := Scalar.indexCast v65
  let c112 : Index := 112#32
  let c0_230 : Index := 0#32
  ![0, v452.toNat, 112, 0]
def k0_off44 (k0_t3 : Fin k0_t3_loop.trips) : Fin 4 → Nat :=
  let c0_241 : Index := 0#32
  let c0_i32_42 : BitVec 32 := 0#32
  let c1_i32_44 : BitVec 32 := 1#32
  let arg12 : BitVec 32 := Scf.iv c0_i32_42 c1_i32_44 k0_t3
  let c32_i32_46 : BitVec 32 := 32#32
  let v64 : BitVec 32 := Scalar.muli arg12 c32_i32_46
  let v65 : BitVec 32 := v64
  let v477 : Index := Scalar.indexCast v65
  let c120 : Index := 120#32
  let c0_242 : Index := 0#32
  ![0, v477.toNat, 120, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Tail.lean ====
abbrev S8x2048x1024 : Shape := ⟨3, ![8, 2048, 1024]⟩
abbrev S8x2048x512 : Shape := ⟨3, ![8, 2048, 512]⟩
abbrev S8x2048x2048 : Shape := ⟨3, ![8, 2048, 2048]⟩
abbrev S512x1024 : Shape := ⟨2, ![512, 1024]⟩
abbrev S1024 : Shape := ⟨1, ![1024]⟩
abbrev S1024x1024 : Shape := ⟨2, ![1024, 1024]⟩
abbrev S8x512x4x4x128 : Shape := ⟨5, ![8, 512, 4, 4, 128]⟩
abbrev S8x512x1x4x0 : Shape := ⟨5, ![8, 512, 1, 4, 0]⟩
abbrev S8x512x4x0 : Shape := ⟨4, ![8, 512, 4, 0]⟩
abbrev S8x512x1x4x128 : Shape := ⟨5, ![8, 512, 1, 4, 128]⟩
abbrev S8x512x4x128 : Shape := ⟨4, ![8, 512, 4, 128]⟩
abbrev S8x512x1x4x32 : Shape := ⟨5, ![8, 512, 1, 4, 32]⟩
abbrev S8x512x4x32 : Shape := ⟨4, ![8, 512, 4, 32]⟩
abbrev S8x512x1x4x96 : Shape := ⟨5, ![8, 512, 1, 4, 96]⟩
abbrev S8x512x4x96 : Shape := ⟨4, ![8, 512, 4, 96]⟩
abbrev S8x512x1x4x64 : Shape := ⟨5, ![8, 512, 1, 4, 64]⟩
abbrev S8x512x4x64 : Shape := ⟨4, ![8, 512, 4, 64]⟩
abbrev S4x512x4x8x128 : Shape := ⟨5, ![4, 512, 4, 8, 128]⟩
abbrev S4x16384x128 : Shape := ⟨3, ![4, 16384, 128]⟩
abbrev S16384x2048 : Shape := ⟨2, ![16384, 2048]⟩
abbrev S16384x512 : Shape := ⟨2, ![16384, 512]⟩
abbrev S16384x3072 : Shape := ⟨2, ![16384, 3072]⟩
abbrev S16384x1024 : Shape := ⟨2, ![16384, 1024]⟩
abbrev S1x1024 : Shape := ⟨2, ![1, 1024]⟩
abbrev S4x4096x128 : Shape := ⟨3, ![4, 4096, 128]⟩
abbrev S512x512 : Shape := ⟨2, ![512, 512]⟩
abbrev S512x2048 : Shape := ⟨2, ![512, 2048]⟩
abbrev S1x512x128 : Shape := ⟨3, ![1, 512, 128]⟩
abbrev S512x128 : Shape := ⟨2, ![512, 128]⟩

abbrev nBuf : Space → Nat
  | .hbm => 55
  | .vmem => 19
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S8x2048x512, .f32⟩
  | .hbm, ⟨4, _⟩ => ⟨S8x2048x512, .f32⟩
  | .hbm, ⟨5, _⟩ => ⟨S8x2048x2048, .f32⟩
  | .hbm, ⟨6, _⟩ => ⟨S512x1024, .f32⟩
  | .hbm, ⟨7, _⟩ => ⟨S1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S8x512x4x4x128, .f32⟩
  | .hbm, ⟨12, _⟩ => ⟨S8x512x1x4x0, .f32⟩
  | .hbm, ⟨13, _⟩ => ⟨S8x512x4x0, .f32⟩
  | .hbm, ⟨14, _⟩ => ⟨S8x512x1x4x128, .f32⟩
  | .hbm, ⟨15, _⟩ => ⟨S8x512x4x128, .f32⟩
  | .hbm, ⟨16, _⟩ => ⟨S8x512x4x128, .f32⟩
  | .hbm, ⟨17, _⟩ => ⟨S8x512x1x4x32, .f32⟩
  | .hbm, ⟨18, _⟩ => ⟨S8x512x4x32, .f32⟩
  | .hbm, ⟨19, _⟩ => ⟨S8x512x1x4x96, .f32⟩
  | .hbm, ⟨20, _⟩ => ⟨S8x512x4x96, .f32⟩
  | .hbm, ⟨21, _⟩ => ⟨S8x512x4x128, .f32⟩
  | .hbm, ⟨22, _⟩ => ⟨S8x512x1x4x64, .f32⟩
  | .hbm, ⟨23, _⟩ => ⟨S8x512x4x64, .f32⟩
  | .hbm, ⟨24, _⟩ => ⟨S8x512x1x4x64, .f32⟩
  | .hbm, ⟨25, _⟩ => ⟨S8x512x4x64, .f32⟩
  | .hbm, ⟨26, _⟩ => ⟨S8x512x4x128, .f32⟩
  | .hbm, ⟨27, _⟩ => ⟨S8x512x1x4x96, .f32⟩
  | .hbm, ⟨28, _⟩ => ⟨S8x512x4x96, .f32⟩
  | .hbm, ⟨29, _⟩ => ⟨S8x512x1x4x32, .f32⟩
  | .hbm, ⟨30, _⟩ => ⟨S8x512x4x32, .f32⟩
  | .hbm, ⟨31, _⟩ => ⟨S8x512x4x128, .f32⟩
  | .hbm, ⟨32, _⟩ => ⟨S8x512x1x4x128, .f32⟩
  | .hbm, ⟨33, _⟩ => ⟨S8x512x1x4x128, .f32⟩
  | .hbm, ⟨34, _⟩ => ⟨S8x512x1x4x128, .f32⟩
  | .hbm, ⟨35, _⟩ => ⟨S8x512x1x4x128, .f32⟩
  | .hbm, ⟨36, _⟩ => ⟨S8x512x4x4x128, .f32⟩
  | .hbm, ⟨37, _⟩ => ⟨S4x512x4x8x128, .f32⟩
  | .hbm, ⟨38, _⟩ => ⟨S4x16384x128, .f32⟩
  | .hbm, ⟨39, _⟩ => ⟨S16384x2048, .f32⟩
  | .hbm, ⟨40, _⟩ => ⟨S16384x2048, .bf16⟩
  | .hbm, ⟨41, _⟩ => ⟨S16384x512, .f32⟩
  | .hbm, ⟨42, _⟩ => ⟨S16384x512, .bf16⟩
  | .hbm, ⟨43, _⟩ => ⟨S16384x512, .f32⟩
  | .hbm, ⟨44, _⟩ => ⟨S16384x512, .bf16⟩
  | .hbm, ⟨45, _⟩ => ⟨S16384x3072, .bf16⟩
  | .hbm, ⟨46, _⟩ => ⟨S16384x1024, .f32⟩
  | .hbm, ⟨47, _⟩ => ⟨S16384x512, .f32⟩
  | .hbm, ⟨48, _⟩ => ⟨S16384x512, .bf16⟩
  | .hbm, ⟨49, _⟩ => ⟨S512x1024, .bf16⟩
  | .hbm, ⟨50, _⟩ => ⟨S1x1024, .f32⟩
  | .hbm, ⟨51, _⟩ => ⟨S512x1024, .bf16⟩
  | .hbm, ⟨52, _⟩ => ⟨S512x1024, .bf16⟩
  | .hbm, ⟨53, _⟩ => ⟨S1024x1024, .bf16⟩
  | .hbm, ⟨54, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S4x4096x128, .f32⟩
  | .local _ .vmem, ⟨3, _⟩ => ⟨S4x4096x128, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x2048, .bf16⟩
  | .local _ .vmem, ⟨11, _⟩ => ⟨S512x2048, .bf16⟩
  | .local _ .vmem, ⟨12, _⟩ => ⟨S512x1024, .bf16⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S512x1024, .f32⟩
  | .local _ .vmem, ⟨18, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def k0_off1 (i : grid0.Coords) : Fin 3 → Nat :=
  let c0 : Index := 0#32
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : Index := Scalar.indexCast v9
  let c0_3 : Index := 0#32
  ![0, v10.toNat, 0]
def k0_off2 (i : grid0.Coords) : Fin 3 → Nat :=
  let c1 : Index := 1#32
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v42 : Index := Scalar.indexCast v9
  let c0_10 : Index := 0#32
  ![1, v42.toNat, 0]
def k0_off3 (i : grid0.Coords) : Fin 3 → Nat :=
  let c2 : Index := 2#32
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v74 : Index := Scalar.indexCast v9
  let c0_23 : Index := 0#32
  ![2, v74.toNat, 0]
def k0_off4 (i : grid0.Coords) : Fin 3 → Nat :=
  let c3 : Index := 3#32
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v106 : Index := Scalar.indexCast v9
  let c0_36 : Index := 0#32
  ![3, v106.toNat, 0]
def cc0_transform_0 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c8_i32_3 : BitVec 32 := 8#32
  let v11 : BitVec 32 := Scalar.divsi arg0 c8_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi arg0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  ![v28.toNat, c0_i32_10.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![c0_i32_4.toNat, v16.toNat, c0_i32_5.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c8_i32_3 : BitVec 32 := 8#32
  let v11 : BitVec 32 := Scalar.divsi arg0 c8_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi arg0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c4_i32_10 : BitVec 32 := 4#32
  let c0_i32_11 : BitVec 32 := 0#32
  ![v28.toNat, c4_i32_10.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c8_i32_3 : BitVec 32 := 8#32
  let v11 : BitVec 32 := Scalar.divsi arg0 c8_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi arg0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  ![v28.toNat, c0_i32_10.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c8_i32_3 : BitVec 32 := 8#32
  let v11 : BitVec 32 := Scalar.divsi arg0 c8_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi arg0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c5_i32 : BitVec 32 := 5#32
  let c0_i32_10 : BitVec 32 := 0#32
  ![v28.toNat, c5_i32.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c8_i32_3 : BitVec 32 := 8#32
  let v11 : BitVec 32 := Scalar.divsi arg0 c8_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi arg0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  ![v28.toNat, c0_i32_10.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c8_i32_3 : BitVec 32 := 8#32
  let v11 : BitVec 32 := Scalar.divsi arg0 c8_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi arg0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  ![v28.toNat, c0_i32_10.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== TailReferenceIdeal.lean ====
abbrev S8x2048x1024 : Shape := ⟨3, ![8, 2048, 1024]⟩
abbrev S8x2048x512 : Shape := ⟨3, ![8, 2048, 512]⟩
abbrev S8x2048x2048 : Shape := ⟨3, ![8, 2048, 2048]⟩
abbrev S512x1024 : Shape := ⟨2, ![512, 1024]⟩
abbrev S1024 : Shape := ⟨1, ![1024]⟩
abbrev S1024x1024 : Shape := ⟨2, ![1024, 1024]⟩
abbrev S_ : Shape := ⟨0, ![]⟩
abbrev S1x1x1024 : Shape := ⟨3, ![1, 1, 1024]⟩
abbrev S16384x1024 : Shape := ⟨2, ![16384, 1024]⟩

abbrev nBuf : Space → Nat
  | .hbm => 89
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S8x2048x512, .f32⟩
  | .hbm, ⟨4, _⟩ => ⟨S8x2048x512, .f32⟩
  | .hbm, ⟨5, _⟩ => ⟨S8x2048x2048, .f32⟩
  | .hbm, ⟨6, _⟩ => ⟨S512x1024, .f32⟩
  | .hbm, ⟨7, _⟩ => ⟨S1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S8x2048x1024, .f32⟩
  | .hbm, ⟨12, _⟩ => ⟨S8x2048x1024, .f32⟩
  | .hbm, ⟨13, _⟩ => ⟨S8x2048x512, .f32⟩
  | .hbm, ⟨14, _⟩ => ⟨S8x2048x512, .f32⟩
  | .hbm, ⟨15, _⟩ => ⟨S_, .f32⟩
  | .hbm, ⟨16, _⟩ => ⟨S8x2048x512, .f32⟩
  | .hbm, ⟨17, _⟩ => ⟨S8x2048x512, .f32⟩
  | .hbm, ⟨18, _⟩ => ⟨S_, .f32⟩
  | .hbm, ⟨19, _⟩ => ⟨S8x2048x512, .f32⟩
  | .hbm, ⟨20, _⟩ => ⟨S8x2048x512, .f32⟩
  | .hbm, ⟨21, _⟩ => ⟨S8x2048x512, .f32⟩
  | .hbm, ⟨22, _⟩ => ⟨S8x2048x512, .f32⟩
  | .hbm, ⟨23, _⟩ => ⟨S8x2048x1024, .f32⟩
  | .hbm, ⟨24, _⟩ => ⟨S8x2048x512, .f32⟩
  | .hbm, ⟨25, _⟩ => ⟨S8x2048x512, .f32⟩
  | .hbm, ⟨26, _⟩ => ⟨S_, .f32⟩
  | .hbm, ⟨27, _⟩ => ⟨S8x2048x512, .f32⟩
  | .hbm, ⟨28, _⟩ => ⟨S8x2048x512, .f32⟩
  | .hbm, ⟨29, _⟩ => ⟨S8x2048x512, .f32⟩
  | .hbm, ⟨30, _⟩ => ⟨S_, .f32⟩
  | .hbm, ⟨31, _⟩ => ⟨S8x2048x512, .f32⟩
  | .hbm, ⟨32, _⟩ => ⟨S8x2048x512, .f32⟩
  | .hbm, ⟨33, _⟩ => ⟨S8x2048x512, .f32⟩
  | .hbm, ⟨34, _⟩ => ⟨S_, .f32⟩
  | .hbm, ⟨35, _⟩ => ⟨S8x2048x512, .f32⟩
  | .hbm, ⟨36, _⟩ => ⟨S8x2048x512, .f32⟩
  | .hbm, ⟨37, _⟩ => ⟨S_, .f32⟩
  | .hbm, ⟨38, _⟩ => ⟨S8x2048x512, .f32⟩
  | .hbm, ⟨39, _⟩ => ⟨S8x2048x512, .f32⟩
  | .hbm, ⟨40, _⟩ => ⟨S8x2048x512, .f32⟩
  | .hbm, ⟨41, _⟩ => ⟨S8x2048x1024, .f32⟩
  | .hbm, ⟨42, _⟩ => ⟨S1x1x1024, .f32⟩
  | .hbm, ⟨43, _⟩ => ⟨S8x2048x1024, .f32⟩
  | .hbm, ⟨44, _⟩ => ⟨S8x2048x1024, .f32⟩
  | .hbm, ⟨45, _⟩ => ⟨S8x2048x512, .f32⟩
  | .hbm, ⟨46, _⟩ => ⟨S8x2048x512, .f32⟩
  | .hbm, ⟨47, _⟩ => ⟨S8x2048x512, .f32⟩
  | .hbm, ⟨48, _⟩ => ⟨S8x2048x512, .f32⟩
  | .hbm, ⟨49, _⟩ => ⟨S_, .f32⟩
  | .hbm, ⟨50, _⟩ => ⟨S8x2048x512, .f32⟩
  | .hbm, ⟨51, _⟩ => ⟨S8x2048x512, .f32⟩
  | .hbm, ⟨52, _⟩ => ⟨S_, .f32⟩
  | .hbm, ⟨53, _⟩ => ⟨S8x2048x512, .f32⟩
  | .hbm, ⟨54, _⟩ => ⟨S8x2048x512, .f32⟩
  | .hbm, ⟨55, _⟩ => ⟨S8x2048x512, .f32⟩
  | .hbm, ⟨56, _⟩ => ⟨S8x2048x512, .f32⟩
  | .hbm, ⟨57, _⟩ => ⟨S8x2048x512, .f32⟩
  | .hbm, ⟨58, _⟩ => ⟨S_, .f32⟩
  | .hbm, ⟨59, _⟩ => ⟨S8x2048x512, .f32⟩
  | .hbm, ⟨60, _⟩ => ⟨S8x2048x512, .f32⟩
  | .hbm, ⟨61, _⟩ => ⟨S_, .f32⟩
  | .hbm, ⟨62, _⟩ => ⟨S8x2048x512, .f32⟩
  | .hbm, ⟨63, _⟩ => ⟨S8x2048x512, .f32⟩
  | .hbm, ⟨64, _⟩ => ⟨S8x2048x512, .f32⟩
  | .hbm, ⟨65, _⟩ => ⟨S8x2048x512, .f32⟩
  | .hbm, ⟨66, _⟩ => ⟨S8x2048x1024, .f32⟩
  | .hbm, ⟨67, _⟩ => ⟨S8x2048x1024, .f32⟩
  | .hbm, ⟨68, _⟩ => ⟨S8x2048x1024, .f32⟩
  | .hbm, ⟨69, _⟩ => ⟨S_, .f32⟩
  | .hbm, ⟨70, _⟩ => ⟨S8x2048x1024, .f32⟩
  | .hbm, ⟨71, _⟩ => ⟨S8x2048x1024, .f32⟩
  | .hbm, ⟨72, _⟩ => ⟨S_, .f32⟩
  | .hbm, ⟨73, _⟩ => ⟨S8x2048x1024, .f32⟩
  | .hbm, ⟨74, _⟩ => ⟨S8x2048x1024, .f32⟩
  | .hbm, ⟨75, _⟩ => ⟨S8x2048x1024, .f32⟩
  | .hbm, ⟨76, _⟩ => ⟨S8x2048x1024, .f32⟩
  | .hbm, ⟨77, _⟩ => ⟨S8x2048x1024, .f32⟩
  | .hbm, ⟨78, _⟩ => ⟨S_, .f32⟩
  | .hbm, ⟨79, _⟩ => ⟨S8x2048x1024, .f32⟩
  | .hbm, ⟨80, _⟩ => ⟨S8x2048x1024, .f32⟩
  | .hbm, ⟨81, _⟩ => ⟨S_, .f32⟩
  | .hbm, ⟨82, _⟩ => ⟨S8x2048x1024, .f32⟩
  | .hbm, ⟨83, _⟩ => ⟨S8x2048x1024, .f32⟩
  | .hbm, ⟨84, _⟩ => ⟨S8x2048x1024, .f32⟩
  | .hbm, ⟨85, _⟩ => ⟨S8x2048x1024, .f32⟩
  | .hbm, ⟨86, _⟩ => ⟨S8x2048x1024, .f32⟩
  | .hbm, ⟨87, _⟩ => ⟨S8x2048x1024, .f32⟩
  | .hbm, ⟨88, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_0 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_1 : Ref sig .tc := ⟨.hbm, 34, rfl⟩
abbrev main_v13 : Ref sig .tc := ⟨.hbm, 35, rfl⟩
abbrev main_v14 : Ref sig .tc := ⟨.hbm, 36, rfl⟩
abbrev main_cst_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_3 : Ref sig .tc := ⟨.hbm, 49, rfl⟩
abbrev main_v26 : Ref sig .tc := ⟨.hbm, 50, rfl⟩
abbrev main_v27 : Ref sig .tc := ⟨.hbm, 51, rfl⟩
abbrev main_cst_4 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_call1_v5 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_cst_5 : Ref sig .tc := ⟨.hbm, 69, rfl⟩
abbrev main_v36 : Ref sig .tc := ⟨.hbm, 70, rfl⟩
abbrev main_v37 : Ref sig .tc := ⟨.hbm, 71, rfl⟩
abbrev main_cst_6 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_cst_7 : Ref sig .tc := ⟨.hbm, 78, rfl⟩
abbrev main_v43 : Ref sig .tc := ⟨.hbm, 79, rfl⟩
abbrev main_v44 : Ref sig .tc := ⟨.hbm, 80, rfl⟩
abbrev main_cst_8 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩

abbrev nD : Nat := 1
abbrev τ : Topo := Topo.v7x

variable {F : FTy → Type} [FloatOps F]
-- ==== InProj.lean ====
abbrev S8x2048x1024 : Shape := ⟨3, ![8, 2048, 1024]⟩
abbrev S1x1024 : Shape := ⟨2, ![1, 1024]⟩
abbrev S1x1024x6144 : Shape := ⟨3, ![1, 1024, 6144]⟩
abbrev S1x2048 : Shape := ⟨2, ![1, 2048]⟩
abbrev S1x64 : Shape := ⟨2, ![1, 64]⟩
abbrev S2048x8 : Shape := ⟨2, ![2048, 8]⟩
abbrev S16384x1024 : Shape := ⟨2, ![16384, 1024]⟩
abbrev S64 : Shape := ⟨1, ![64]⟩
abbrev S_ : Shape := ⟨0, ![]⟩
abbrev S24x64 : Shape := ⟨2, ![24, 64]⟩
abbrev S1536 : Shape := ⟨1, ![1536]⟩
abbrev S8x64 : Shape := ⟨2, ![8, 64]⟩
abbrev S512 : Shape := ⟨1, ![512]⟩
abbrev S2048 : Shape := ⟨1, ![2048]⟩
abbrev S2048x48 : Shape := ⟨2, ![2048, 48]⟩
abbrev S2048x64 : Shape := ⟨2, ![2048, 64]⟩
abbrev S2048x128 : Shape := ⟨2, ![2048, 128]⟩
abbrev S256x256 : Shape := ⟨2, ![256, 256]⟩
abbrev S1024 : Shape := ⟨1, ![1024]⟩
abbrev S16384x2560 : Shape := ⟨2, ![16384, 2560]⟩
abbrev S16384x3072 : Shape := ⟨2, ![16384, 3072]⟩
abbrev S4x16384x128 : Shape := ⟨3, ![4, 16384, 128]⟩
abbrev S512x1024 : Shape := ⟨2, ![512, 1024]⟩
abbrev S512x128 : Shape := ⟨2, ![512, 128]⟩
abbrev S512x2560 : Shape := ⟨2, ![512, 2560]⟩
abbrev S512x3072 : Shape := ⟨2, ![512, 3072]⟩
abbrev S4x4096x128 : Shape := ⟨3, ![4, 4096, 128]⟩
abbrev S1024x6144 : Shape := ⟨2, ![1024, 6144]⟩
abbrev S3x1024x256 : Shape := ⟨3, ![3, 1024, 256]⟩
abbrev S3 : Shape := ⟨1, ![3]⟩
abbrev S1 : Shape := ⟨1, ![1]⟩
abbrev S1x1024x256 : Shape := ⟨3, ![1, 1024, 256]⟩
abbrev S1024x256 : Shape := ⟨2, ![1024, 256]⟩
abbrev S512x1 : Shape := ⟨2, ![512, 1]⟩
abbrev S1024x512 : Shape := ⟨2, ![1024, 512]⟩
abbrev S512x512 : Shape := ⟨2, ![512, 512]⟩
abbrev S1x512x128 : Shape := ⟨3, ![1, 512, 128]⟩
abbrev S1x256 : Shape := ⟨2, ![1, 256]⟩
abbrev S256x128 : Shape := ⟨2, ![256, 128]⟩
abbrev S1x512 : Shape := ⟨2, ![1, 512]⟩

abbrev nBuf : Space → Nat
  | .hbm => 87
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x6144, .f32⟩
  | .hbm, ⟨3, _⟩ => ⟨S1x2048, .f32⟩
  | .hbm, ⟨4, _⟩ => ⟨S1x64, .f32⟩
  | .hbm, ⟨5, _⟩ => ⟨S1x64, .f32⟩
  | .hbm, ⟨6, _⟩ => ⟨S2048x8, .f32⟩
  | .hbm, ⟨7, _⟩ => ⟨S2048x8, .f32⟩
  | .hbm, ⟨8, _⟩ => ⟨S16384x1024, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S1x64, .f32⟩
  | .hbm, ⟨14, _⟩ => ⟨S24x64, .f32⟩
  | .hbm, ⟨15, _⟩ => ⟨S1536, .f32⟩
  | .hbm, ⟨16, _⟩ => ⟨S64, .f32⟩
  | .hbm, ⟨17, _⟩ => ⟨S1x64, .f32⟩
  | .hbm, ⟨18, _⟩ => ⟨S8x64, .f32⟩
  | .hbm, ⟨19, _⟩ => ⟨S512, .f32⟩
  | .hbm, ⟨20, _⟩ => ⟨S2048, .f32⟩
  | .hbm, ⟨21, _⟩ => ⟨S1x2048, .f32⟩
  | .hbm, ⟨22, _⟩ => ⟨S_, .f32⟩
  | .hbm, ⟨23, _⟩ => ⟨S2048x48, .f32⟩
  | .hbm, ⟨24, _⟩ => ⟨S_, .f32⟩
  | .hbm, ⟨25, _⟩ => ⟨S2048x8, .f32⟩
  | .hbm, ⟨26, _⟩ => ⟨S_, .f32⟩
  | .hbm, ⟨27, _⟩ => ⟨S2048x48, .f32⟩
  | .hbm, ⟨28, _⟩ => ⟨S2048x64, .f32⟩
  | .hbm, ⟨29, _⟩ => ⟨S2048x128, .f32⟩
  | .hbm, ⟨30, _⟩ => ⟨S2048x8, .f32⟩
  | .hbm, ⟨31, _⟩ => ⟨S2048x64, .f32⟩
  | .hbm, ⟨32, _⟩ => ⟨S2048x128, .f32⟩
  | .hbm, ⟨33, _⟩ => ⟨S2048x64, .f32⟩
  | .hbm, ⟨34, _⟩ => ⟨S2048x128, .f32⟩
  | .hbm, ⟨35, _⟩ => ⟨S256x256, .i32⟩
  | .hbm, ⟨36, _⟩ => ⟨S_, .i32⟩
  | .hbm, ⟨37, _⟩ => ⟨S_, .i32⟩
  | .hbm, ⟨38, _⟩ => ⟨S256x256, .i32⟩
  | .hbm, ⟨39, _⟩ => ⟨S256x256, .i32⟩
  | .hbm, ⟨40, _⟩ => ⟨S256x256, .i32⟩
  | .hbm, ⟨41, _⟩ => ⟨S_, .i32⟩
  | .hbm, ⟨42, _⟩ => ⟨S256x256, .i32⟩
  | .hbm, ⟨43, _⟩ => ⟨S256x256, .i1⟩
  | .hbm, ⟨44, _⟩ => ⟨S256x256, .i32⟩
  | .hbm, ⟨45, _⟩ => ⟨S256x256, .i32⟩
  | .hbm, ⟨46, _⟩ => ⟨S_, .i32⟩
  | .hbm, ⟨47, _⟩ => ⟨S256x256, .i32⟩
  | .hbm, ⟨48, _⟩ => ⟨S256x256, .i1⟩
  | .hbm, ⟨49, _⟩ => ⟨S256x256, .i1⟩
  | .hbm, ⟨50, _⟩ => ⟨S_, .i32⟩
  | .hbm, ⟨51, _⟩ => ⟨S256x256, .i32⟩
  | .hbm, ⟨52, _⟩ => ⟨S256x256, .i32⟩
  | .hbm, ⟨53, _⟩ => ⟨S256x256, .i32⟩
  | .hbm, ⟨54, _⟩ => ⟨S256x256, .i32⟩
  | .hbm, ⟨55, _⟩ => ⟨S_, .i32⟩
  | .hbm, ⟨56, _⟩ => ⟨S_, .i32⟩
  | .hbm, ⟨57, _⟩ => ⟨S256x256, .i32⟩
  | .hbm, ⟨58, _⟩ => ⟨S256x256, .i32⟩
  | .hbm, ⟨59, _⟩ => ⟨S256x256, .i32⟩
  | .hbm, ⟨60, _⟩ => ⟨S_, .i32⟩
  | .hbm, ⟨61, _⟩ => ⟨S256x256, .i32⟩
  | .hbm, ⟨62, _⟩ => ⟨S256x256, .i1⟩
  | .hbm, ⟨63, _⟩ => ⟨S256x256, .i32⟩
  | .hbm, ⟨64, _⟩ => ⟨S256x256, .i32⟩
  | .hbm, ⟨65, _⟩ => ⟨S_, .i32⟩
  | .hbm, ⟨66, _⟩ => ⟨S256x256, .i32⟩
  | .hbm, ⟨67, _⟩ => ⟨S256x256, .i1⟩
  | .hbm, ⟨68, _⟩ => ⟨S256x256, .i1⟩
  | .hbm, ⟨69, _⟩ => ⟨S_, .i32⟩
  | .hbm, ⟨70, _⟩ => ⟨S256x256, .i32⟩
  | .hbm, ⟨71, _⟩ => ⟨S256x256, .i32⟩
  | .hbm, ⟨72, _⟩ => ⟨S256x256, .i32⟩
  | .hbm, ⟨73, _⟩ => ⟨S256x256, .i1⟩
  | .hbm, ⟨74, _⟩ => ⟨S_, .f32⟩
  | .hbm, ⟨75, _⟩ => ⟨S_, .f32⟩
  | .hbm, ⟨76, _⟩ => ⟨S256x256, .f32⟩
  | .hbm, ⟨77, _⟩ => ⟨S256x256, .f32⟩
  | .hbm, ⟨78, _⟩ => ⟨S256x256, .f32⟩
  | .hbm, ⟨79, _⟩ => ⟨S256x256, .bf16⟩
  | .hbm, ⟨80, _⟩ => ⟨S1024, .f32⟩
  | .hbm, ⟨81, _⟩ => ⟨S1x1024, .f32⟩
  | .hbm, ⟨82, _⟩ => ⟨S2048, .f32⟩
  | .hbm, ⟨83, _⟩ => ⟨S1x2048, .f32⟩
  | .hbm, ⟨84, _⟩ => ⟨S16384x2560, .f32⟩
  | .hbm, ⟨85, _⟩ => ⟨S16384x3072, .bf16⟩
  | .hbm, ⟨86, _⟩ => ⟨S4x16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x2048, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x2048, .f32⟩
  | .local _ .vmem, ⟨11, _⟩ => ⟨S256x256, .bf16⟩
  | .local _ .vmem, ⟨12, _⟩ => ⟨S512x2560, .f32⟩
  | .local _ .vmem, ⟨13, _⟩ => ⟨S512x2560, .f32⟩
  | .local _ .vmem, ⟨14, _⟩ => ⟨S512x3072, .bf16⟩
  | .local _ .vmem, ⟨15, _⟩ => ⟨S512x3072, .bf16⟩
  | .local _ .vmem, ⟨16, _⟩ => ⟨S4x4096x128, .f32⟩
  | .local _ .vmem, ⟨17, _⟩ => ⟨S4x4096x128, .f32⟩
  | .local _ .vmem, ⟨18, _⟩ => ⟨S1024x6144, .bf16⟩
  | .local _ .vmem, ⟨19, _⟩ => ⟨S3x1024x256, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_c : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_0 : Ref sig .tc := ⟨.hbm, 50, rfl⟩
abbrev main_call0_v12 : Ref sig .tc := ⟨.hbm, 51, rfl⟩
abbrev main_call0_v13 : Ref sig .tc := ⟨.hbm, 52, rfl⟩
abbrev main_v24 : Ref sig .tc := ⟨.hbm, 53, rfl⟩
abbrev main_v25 : Ref sig .tc := ⟨.hbm, 54, rfl⟩
abbrev main_c_3 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_c : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_0 : Ref sig .tc := ⟨.hbm, 69, rfl⟩
abbrev main_call1_v12 : Ref sig .tc := ⟨.hbm, 70, rfl⟩
abbrev main_call1_v13 : Ref sig .tc := ⟨.hbm, 71, rfl⟩
abbrev main_v26 : Ref sig .tc := ⟨.hbm, 72, rfl⟩
abbrev main_v27 : Ref sig .tc := ⟨.hbm, 73, rfl⟩
abbrev main_cst_4 : Ref sig .tc := ⟨.hbm, 74, rfl⟩
abbrev main_cst_5 : Ref sig .tc := ⟨.hbm, 75, rfl⟩
abbrev main_call2_v0 : Ref sig .tc := ⟨.hbm, 76, rfl⟩
abbrev main_call2_v1 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34_0 : Ref sig .tc := ⟨.hbm, 84, rfl⟩
abbrev main_v34_1 : Ref sig .tc := ⟨.hbm, 85, rfl⟩
abbrev main_v34_2 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def k0_off1 (i : grid0.Coords) : Fin 3 → Nat :=
  let c0_21 : Index := 0#32
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v64 : Index := Scalar.indexCast v9
  let c0_22 : Index := 0#32
  ![0, v64.toNat, 0]
def k0_off2 (i : grid0.Coords) : Fin 3 → Nat :=
  let c1 : Index := 1#32
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v98 : Index := Scalar.indexCast v9
  let c0_35 : Index := 0#32
  ![1, v98.toNat, 0]
def k0_off3 (i : grid0.Coords) : Fin 3 → Nat :=
  let c2 : Index := 2#32
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v132 : Index := Scalar.indexCast v9
  let c0_48 : Index := 0#32
  ![2, v132.toNat, 0]
def k0_off4 (i : grid0.Coords) : Fin 3 → Nat :=
  let c3 : Index := 3#32
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v166 : Index := Scalar.indexCast v9
  let c0_61 : Index := 0#32
  ![3, v166.toNat, 0]
def cc0_transform_0 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c8_i32_3 : BitVec 32 := 8#32
  let v11 : BitVec 32 := Scalar.divsi arg0 c8_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi arg0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  ![v28.toNat, c0_i32_10.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_5 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_6 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c8_i32_3 : BitVec 32 := 8#32
  let v11 : BitVec 32 := Scalar.divsi arg0 c8_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi arg0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  ![v28.toNat, c0_i32_10.toNat]

def cc0_transform_10 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c8_i32_3 : BitVec 32 := 8#32
  let v11 : BitVec 32 := Scalar.divsi arg0 c8_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi arg0 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  ![v28.toNat, c0_i32_10.toNat]

def cc0_transform_11 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![c0_i32_4.toNat, v16.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2560 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x4096x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InProjReferenceIdeal.lean ====
abbrev S8x2048x1024 : Shape := ⟨3, ![8, 2048, 1024]⟩
abbrev S1x1024 : Shape := ⟨2, ![1, 1024]⟩
abbrev S1x1024x6144 : Shape := ⟨3, ![1, 1024, 6144]⟩
abbrev S1x2048 : Shape := ⟨2, ![1, 2048]⟩
abbrev S1x64 : Shape := ⟨2, ![1, 64]⟩
abbrev S2048x8 : Shape := ⟨2, ![2048, 8]⟩
abbrev S_ : Shape := ⟨0, ![]⟩
abbrev S8x2048 : Shape := ⟨2, ![8, 2048]⟩
abbrev S8x2048x1 : Shape := ⟨3, ![8, 2048, 1]⟩
abbrev S1024 : Shape := ⟨1, ![1024]⟩
abbrev S1x1x1024 : Shape := ⟨3, ![1, 1, 1024]⟩
abbrev S1024x6144 : Shape := ⟨2, ![1024, 6144]⟩
abbrev S8x2048x6144 : Shape := ⟨3, ![8, 2048, 6144]⟩
abbrev S8x2048x512 : Shape := ⟨3, ![8, 2048, 512]⟩
abbrev S8x2048x2560 : Shape := ⟨3, ![8, 2048, 2560]⟩
abbrev S8x2048x2048 : Shape := ⟨3, ![8, 2048, 2048]⟩
abbrev S2048 : Shape := ⟨1, ![2048]⟩
abbrev S1x1x2048 : Shape := ⟨3, ![1, 1, 2048]⟩
abbrev S8x2048x3072 : Shape := ⟨3, ![8, 2048, 3072]⟩
abbrev S16384x3072 : Shape := ⟨2, ![16384, 3072]⟩

abbrev nBuf : Space → Nat
  | .hbm => 39
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x6144, .f32⟩
  | .hbm, ⟨3, _⟩ => ⟨S1x2048, .f32⟩
  | .hbm, ⟨4, _⟩ => ⟨S1x64, .f32⟩
  | .hbm, ⟨5, _⟩ => ⟨S1x64, .f32⟩
  | .hbm, ⟨6, _⟩ => ⟨S2048x8, .f32⟩
  | .hbm, ⟨7, _⟩ => ⟨S2048x8, .f32⟩
  | .hbm, ⟨8, _⟩ => ⟨S8x2048x1024, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x1024, .f32⟩
  | .hbm, ⟨20, _⟩ => ⟨S8x2048x1024, .f32⟩
  | .hbm, ⟨21, _⟩ => ⟨S1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S1024x6144, .f32⟩
  | .hbm, ⟨26, _⟩ => ⟨S8x2048x6144, .f32⟩
  | .hbm, ⟨27, _⟩ => ⟨S8x2048x512, .f32⟩
  | .hbm, ⟨28, _⟩ => ⟨S8x2048x512, .f32⟩
  | .hbm, ⟨29, _⟩ => ⟨S8x2048x2560, .f32⟩
  | .hbm, ⟨30, _⟩ => ⟨S8x2048x512, .f32⟩
  | .hbm, ⟨31, _⟩ => ⟨S8x2048x2048, .f32⟩
  | .hbm, ⟨32, _⟩ => ⟨S2048, .f32⟩
  | .hbm, ⟨33, _⟩ => ⟨S1x1x2048, .f32⟩
  | .hbm, ⟨34, _⟩ => ⟨S8x2048x2048, .f32⟩
  | .hbm, ⟨35, _⟩ => ⟨S8x2048x2048, .f32⟩
  | .hbm, ⟨36, _⟩ => ⟨S8x2048x3072, .f32⟩
  | .hbm, ⟨37, _⟩ => ⟨S16384x3072, .f32⟩
  | .hbm, ⟨38, _⟩ => ⟨S16384x3072, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Proof.S5Scatter.lean ====
/-
  The last loop of `cc0_s5_chunked`: four trips, each of sixteen masked stores into the output tile.  One trip is run once,
  at a symbolic trip number, from any contents of the tile; the loop's invariant names the contents trip by trip.
-/
module

public import proofs.«01_k».proof.Proof.Gen.KernelIdeal.Loops
public import proofs.«01_k».proof.Proof.Gen.KernelIdeal.Launch
public import Idealize.ShloMosaic.Lib.Tactic

@[expose] public section

set_option maxRecDepth 16384

noncomputable section

namespace Cert.Proof.S5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (i : grid0.Coords) (arg2 : Memref sig .tc .vmem S1x128x128x128 .f32) (harg2 : arg2.IsWhole) (arg3 : Memref sig .tc .vmem S1x1x128 .f32) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x8x512 .f32) (harg7 : arg7.IsWhole) (arg8 : Memref sig .tc .vmem S1x128x128x128 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole)

/-- What one trip of the loop touches: the input tile and the pair's result, which it reads, and the output tile. -/
abbrev ScatterTrip (x2 : BufTy.Contents (Elt F) arg2.view.ty) (x10 : BufTy.Contents (Elt F) arg10.view.ty)
    (f : BufTy.Contents (Elt F) arg8.view.ty) : sProp 𝕄 :=
  iprop((arg2.view.loc (c : Thread nD τ) ↦[arg2.view.set]{fullShare} x2) ∗ (arg10.view.loc (c : Thread nD τ) ↦[arg10.view.set]{fullShare} x10)
    ∗ (arg8.view.loc (c : Thread nD τ) ↦[arg8.view.set]{fullShare} f))

set_option maxHeartbeats 2000000 in
/-- One trip, at a symbolic trip number: from the output tile at `f` to the tile at the contents named. -/
@[irreducible] def scatterTrip (arg1 : BitVec 32) (v24 : IVec S256x128 32) (v59 v60 v61 : FVec F S8x128 .f32)
    (x2 : BufTy.Contents (Elt F) arg2.view.ty) (x10 : BufTy.Contents (Elt F) arg10.view.ty) (k : Fin k0_t3_loop.trips) (f : BufTy.Contents (Elt F) arg8.view.ty) :
    { g : BufTy.Contents (Elt F) arg8.view.ty // ∀ (E : Set ℕ), ScatterTrip (F := F) c arg2 arg8 arg10 x2 x10 f
      ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg11 harg11 arg1 v24 v59 v60 v61 k PUnit.unit)
          (fun _ => ScatterTrip (F := F) c arg2 arg8 arg10 x2 x10 g) } := by
  have hk : k.val < 4 := Nat.lt_of_lt_of_le k.isLt (by decide)
  refine ⟨?_, fun E => ?run⟩
  case run =>
    unfold k0_t3_body
    iintro ⟨H2, H10, H8⟩
    sl_exec
    sl_step
    sl_close

/-- The output tile after the trips before `k`, from the tile at `f`. -/
def scatterAt (arg1 : BitVec 32) (v24 : IVec S256x128 32) (v59 v60 v61 : FVec F S8x128 .f32)
    (x2 : BufTy.Contents (Elt F) arg2.view.ty) (x10 : BufTy.Contents (Elt F) arg10.view.ty) (f : BufTy.Contents (Elt F) arg8.view.ty) :
    ℕ → BufTy.Contents (Elt F) arg8.view.ty
  | 0 => f
  | k + 1 => if h : k < k0_t3_loop.trips then
      (scatterTrip (F := F) 𝒱 c bd i arg2 harg2 arg3 harg3 arg4 harg4 arg5 harg5 arg6 harg6 arg7 harg7 arg8 harg8 arg9 harg9 arg10 harg10 arg11 harg11 arg1 v24 v59 v60 v61 x2 x10 ⟨k, h⟩
        (scatterAt arg1 v24 v59 v60 v61 x2 x10 f k)).1
    else scatterAt arg1 v24 v59 v60 v61 x2 x10 f k

/-- One trip further. -/
theorem scatterAt_succ (arg1 : BitVec 32) (v24 : IVec S256x128 32) (v59 v60 v61 : FVec F S8x128 .f32)
    (x2 : BufTy.Contents (Elt F) arg2.view.ty) (x10 : BufTy.Contents (Elt F) arg10.view.ty) (f : BufTy.Contents (Elt F) arg8.view.ty) (k : Fin k0_t3_loop.trips) :
    scatterAt (F := F) 𝒱 c bd i arg2 harg2 arg3 harg3 arg4 harg4 arg5 harg5 arg6 harg6 arg7 harg7 arg8 harg8 arg9 harg9 arg10 harg10 arg11 harg11 arg1 v24 v59 v60 v61 x2 x10 f (k.val + 1)
      = (scatterTrip (F := F) 𝒱 c bd i arg2 harg2 arg3 harg3 arg4 harg4 arg5 harg5 arg6 harg6 arg7 harg7 arg8 harg8 arg9 harg9 arg10 harg10 arg11 harg11 arg1 v24 v59 v60 v61 x2 x10 k
          (scatterAt (F := F) 𝒱 c bd i arg2 harg2 arg3 harg3 arg4 harg4 arg5 harg5 arg6 harg6 arg7 harg7 arg8 harg8 arg9 harg9 arg10 harg10 arg11 harg11 arg1 v24 v59 v60 v61 x2 x10 f k.val)).1 := by
  rw [scatterAt.eq_2]; exact dif_pos k.isLt

set_option warn.classDefReducibility false in
/-- The loop by its invariant: before trip `k` the two tiles read are as they were, the output tile is at `scatterAt … k`. -/
@[sl_loop] def scatterLoop (E : Set ℕ) (arg1 : BitVec 32) (v24 : IVec S256x128 32) (v59 v60 v61 : FVec F S8x128 .f32)
    (x2 : BufTy.Contents (Elt F) arg2.view.ty) (x10 : BufTy.Contents (Elt F) arg10.view.ty) (f : BufTy.Contents (Elt F) arg8.view.ty) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg1 v24 v59 v60 v61 where
  inv k _ := iprop((arg2.view.loc (c : Thread nD τ) ↦[arg2.view.set]{fullShare} x2) ∗ (arg10.view.loc (c : Thread nD τ) ↦[arg10.view.set]{fullShare} x10)
    ∗ (∃ g, (arg8.view.loc (c : Thread nD τ) ↦[arg8.view.set]{fullShare} g)
        ∗ ⌜g = scatterAt (F := F) 𝒱 c bd i arg2 harg2 arg3 harg3 arg4 harg4 arg5 harg5 arg6 harg6 arg7 harg7 arg8 harg8 arg9 harg9 arg10 harg10 arg11 harg11 arg1 v24 v59 v60 v61 x2 x10 f k⌝))
  step k acc := by
    iintro ⟨H2, H10, ⟨%g, H8, %hg⟩⟩
    subst hg
    iapply (wp_wand_r Idealize.ShloMosaic.frame (wpE (defs₀ (F := F)) 𝒱 (c : Thread nD τ) bd) E)
    isplitl [H2 H10 H8]
    · iapply ((scatterTrip (F := F) 𝒱 c bd i arg2 harg2 arg3 harg3 arg4 harg4 arg5 harg5 arg6 harg6 arg7 harg7 arg8 harg8 arg9 harg9 arg10 harg10 arg11 harg11 arg1 v24 v59 v60 v61 x2 x10 k _).2 E)
      isplitl [H2]; · iexact H2
      isplitl [H10]; · iexact H10
      iexact H8
    · iintro %_ ⟨H2, H10, H8⟩
      isplitl [H2]; · iexact H2
      isplitl [H10]; · iexact H10
      iexists _; isplitl [H8]; · iexact H8
      ipureintro; rw [scatterAt_succ]

end Cert.Proof.S5

end
-- ==== Proof.S5Body.lean ====
/-
  The whole body of `cc0_s5_chunked` at one grid point, run once from any contents: what it leaves in its three scratch
  buffers and in the output tile.
-/
module

public import proofs.«01_k».proof.Proof.S5Scatter
public import proofs.«01_k».proof.Proof.Gen.KernelIdeal.Launch
public import Idealize.ShloMosaic.Lib.Tactic

@[expose] public section

set_option maxRecDepth 16384

noncomputable section

namespace Cert.Proof.S5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (i : grid0.Coords) (arg2 : Memref sig .tc .vmem S1x128x128x128 .f32) (harg2 : arg2.IsWhole) (arg3 : Memref sig .tc .vmem S1x1x128 .f32) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x8x512 .f32) (harg7 : arg7.IsWhole) (arg8 : Memref sig .tc .vmem S1x128x128x128 .f32) (harg8 : arg8.IsWhole) (arg9 : Memref sig .tc .vmem S1024x512 .bf16) (harg9 : arg9.IsWhole) (arg10 : Memref sig .tc .vmem S1024x512 .f32) (harg10 : arg10.IsWhole) (arg11 : Memref sig .tc .vmem S1024x512 .f32) (harg11 : arg11.IsWhole)

/-- What the body holds: its six input tiles, the output tile, and the three scratch buffers. -/
abbrev BodyState (x2 : BufTy.Contents (Elt F) arg2.view.ty) (x3 : BufTy.Contents (Elt F) arg3.view.ty) (x4 : BufTy.Contents (Elt F) arg4.view.ty)
    (x5 : BufTy.Contents (Elt F) arg5.view.ty) (x6 : BufTy.Contents (Elt F) arg6.view.ty) (x7 : BufTy.Contents (Elt F) arg7.view.ty)
    (f8 : BufTy.Contents (Elt F) arg8.view.ty) (f9 : BufTy.Contents (Elt F) arg9.view.ty) (f10 : BufTy.Contents (Elt F) arg10.view.ty)
    (f11 : BufTy.Contents (Elt F) arg11.view.ty) : sProp 𝕄 :=
  iprop((arg2.view.loc (c : Thread nD τ) ↦[arg2.view.set]{fullShare} x2) ∗ (arg3.view.loc (c : Thread nD τ) ↦[arg3.view.set]{fullShare} x3)
    ∗ (arg4.view.loc (c : Thread nD τ) ↦[arg4.view.set]{fullShare} x4) ∗ (arg5.view.loc (c : Thread nD τ) ↦[arg5.view.set]{fullShare} x5)
    ∗ (arg6.view.loc (c : Thread nD τ) ↦[arg6.view.set]{fullShare} x6) ∗ (arg7.view.loc (c : Thread nD τ) ↦[arg7.view.set]{fullShare} x7)
    ∗ (arg8.view.loc (c : Thread nD τ) ↦[arg8.view.set]{fullShare} f8) ∗ (arg9.view.loc (c : Thread nD τ) ↦[arg9.view.set]{fullShare} f9)
    ∗ (arg10.view.loc (c : Thread nD τ) ↦[arg10.view.set]{fullShare} f10) ∗ (arg11.view.loc (c : Thread nD τ) ↦[arg11.view.set]{fullShare} f11))

set_option maxHeartbeats 4000000 in
/-- The body's run, from any contents. -/
@[irreducible] def bodyRun (x2 : BufTy.Contents (Elt F) arg2.view.ty) (x3 : BufTy.Contents (Elt F) arg3.view.ty) (x4 : BufTy.Contents (Elt F) arg4.view.ty)
    (x5 : BufTy.Contents (Elt F) arg5.view.ty) (x6 : BufTy.Contents (Elt F) arg6.view.ty) (x7 : BufTy.Contents (Elt F) arg7.view.ty)
    (f8 : BufTy.Contents (Elt F) arg8.view.ty) (f9 : BufTy.Contents (Elt F) arg9.view.ty) (f10 : BufTy.Contents (Elt F) arg10.view.ty)
    (f11 : BufTy.Contents (Elt F) arg11.view.ty) :
    { g : BufTy.Contents (Elt F) arg8.view.ty × BufTy.Contents (Elt F) arg9.view.ty × BufTy.Contents (Elt F) arg10.view.ty × BufTy.Contents (Elt F) arg11.view.ty //
      ∀ (E : Set ℕ), BodyState (F := F) c arg2 arg3 arg4 arg5 arg6 arg7 arg8 arg9 arg10 arg11 x2 x3 x4 x5 x6 x7 f8 f9 f10 f11
      ⊢ wp frame (wpE (defs₀ (F := F)) 𝒱 (c : Thread nD τ) bd) E (cc0_s5_chunked (F := F) i arg2 harg2 arg3 harg3 arg4 harg4 arg5 harg5 arg6 harg6 arg7 harg7 arg8 harg8 arg9 harg9 arg10 harg10 arg11 harg11)
          (fun _ => BodyState (F := F) c arg2 arg3 arg4 arg5 arg6 arg7 arg8 arg9 arg10 arg11 x2 x3 x4 x5 x6 x7 g.1 g.2.1 g.2.2.1 g.2.2.2) } := by
  refine ⟨⟨?_, ?_, ?_, ?_⟩, fun E => ?run⟩
  case run =>
    rw [cc0_s5_chunked_eq_skeleton]
    unfold cc0_s5_chunked_skel
    iintro ⟨H2, H3, H4, H5, H6, H7, H8, H9, H10, H11⟩
    sl_exec
    sl_step
    sl_close

end Cert.Proof.S5

end
-- ==== Proof.S5Frame.lean ====
/-
  The run of the chunked scan kernel over its grid: every grid point terminates, nothing is owed, the six input arrays
  end as they were found. What the output tile holds is left open here, since a grid point writes only the lanes of its
  own group pair.
-/
module

public import proofs.«01_k».proof.Proof.S5Body
public import proofs.«01_k».proof.Proof.Gen.KernelIdeal.Frame

@[expose] public section

set_option maxRecDepth 16384

noncomputable section

namespace Cert.Proof.S5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one window whose contents are left open: the output tile. -/
def openWindow : Fin 7 → Bool := fun w => w.val == 6

/-- What the windows hold: the arrays as the region finds them, each input's block in place after every point. -/
def scanData (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Dat.unnamed (cfg := cfg0) ⟨6, h⟩ t
    | ⟨_ + 7, h⟩ => absurd h (Nat.not_lt.2 (Nat.le_add_left _ _))
  Φ _ := Pipeline.ΦA spec0 c
  q _ := fullShare
  owed _ := 0

/-- The data's arrays are those the region finds. -/
theorem scanData_A (c : Dev nD) (w : Fin cfg0.W) : (scanData m 0 c).A w = V m c (Pipeline.arrRef spec0 w) := by
  dsimp only [scanData]

/-- The memref through which the body addresses window `w`'s buffer at point `t`. -/
abbrev tileRef0 (t : Fin cfg0.N) : Memref sig .tc .vmem S1x128x128x128 .f32 := win0_0.stage (cfg0.slots t 0)
/-- It is a whole buffer. -/
theorem tileRef0_whole (t : Fin cfg0.N) : (tileRef0 t).IsWhole := hstage0_0 ((cfg0.slots t 0).cast nbuf0_0)
/-- And the next window's. -/
abbrev tileRef1 (t : Fin cfg0.N) : Memref sig .tc .vmem S1x1x128 .f32 := win0_1.stage (cfg0.slots t 1)
/-- It is a whole buffer. -/
theorem tileRef1_whole (t : Fin cfg0.N) : (tileRef1 t).IsWhole := hstage0_1 ((cfg0.slots t 1).cast nbuf0_1)
/-- And the next window's. -/
abbrev tileRef2 (t : Fin cfg0.N) : Memref sig .tc .vmem S1x512x512 .bf16 := win0_2.stage (cfg0.slots t 2)
/-- It is a whole buffer. -/
theorem tileRef2_whole (t : Fin cfg0.N) : (tileRef2 t).IsWhole := hstage0_2 ((cfg0.slots t 2).cast nbuf0_2)
/-- And the next window's. -/
abbrev tileRef3 (t : Fin cfg0.N) : Memref sig .tc .vmem S1x512x512 .bf16 := win0_3.stage (cfg0.slots t 3)
/-- It is a whole buffer. -/
theorem tileRef3_whole (t : Fin cfg0.N) : (tileRef3 t).IsWhole := hstage0_3 ((cfg0.slots t 3).cast nbuf0_3)
/-- And the next window's. -/
abbrev tileRef4 (t : Fin cfg0.N) : Memref sig .tc .vmem S1x512x512 .bf16 := win0_4.stage (cfg0.slots t 4)
/-- It is a whole buffer. -/
theorem tileRef4_whole (t : Fin cfg0.N) : (tileRef4 t).IsWhole := hstage0_4 ((cfg0.slots t 4).cast nbuf0_4)
/-- And the next window's. -/
abbrev tileRef5 (t : Fin cfg0.N) : Memref sig .tc .vmem S1x8x512 .f32 := win0_5.stage (cfg0.slots t 5)
/-- It is a whole buffer. -/
theorem tileRef5_whole (t : Fin cfg0.N) : (tileRef5 t).IsWhole := hstage0_5 ((cfg0.slots t 5).cast nbuf0_5)
/-- And the next window's. -/
abbrev tileRef6 (t : Fin cfg0.N) : Memref sig .tc .vmem S1x128x128x128 .f32 := win0_6.stage (cfg0.slots t 6)
/-- It is a whole buffer. -/
theorem tileRef6_whole (t : Fin cfg0.N) : (tileRef6 t).IsWhole := hstage0_6 ((cfg0.slots t 6).cast nbuf0_6)

/-- Input 0's buffer holds its block before the body, at every point. -/
theorem before_0 (c : Dev nD) (t : Fin cfg0.N) (d) : (scanData m 0 c).before 0 t d = iblk m c 0 t :=
  before0_0_of m (scanData m 0 c) (scanData_A m c 0) (fun _ => by dsimp only [scanData]) t d
/-- Input 1's buffer holds its block before the body, at every point. -/
theorem before_1 (c : Dev nD) (t : Fin cfg0.N) (d) : (scanData m 0 c).before 1 t d = iblk m c 1 t :=
  before0_1_of m (scanData m 0 c) (scanData_A m c 1) (fun _ => by dsimp only [scanData]) t d
/-- Input 2's buffer holds its block before the body, at every point. -/
theorem before_2 (c : Dev nD) (t : Fin cfg0.N) (d) : (scanData m 0 c).before 2 t d = iblk m c 2 t :=
  before0_2_of m (scanData m 0 c) (scanData_A m c 2) (fun _ => by dsimp only [scanData]) t d
/-- Input 3's buffer holds its block before the body, at every point. -/
theorem before_3 (c : Dev nD) (t : Fin cfg0.N) (d) : (scanData m 0 c).before 3 t d = iblk m c 3 t :=
  before0_3_of m (scanData m 0 c) (scanData_A m c 3) (fun _ => by dsimp only [scanData]) t d
/-- Input 4's buffer holds its block before the body, at every point. -/
theorem before_4 (c : Dev nD) (t : Fin cfg0.N) (d) : (scanData m 0 c).before 4 t d = iblk m c 4 t :=
  before0_4_of m (scanData m 0 c) (scanData_A m c 4) (fun _ => by dsimp only [scanData]) t d
/-- Input 5's buffer holds its block before the body, at every point. -/
theorem before_5 (c : Dev nD) (t : Fin cfg0.N) (d) : (scanData m 0 c).before 5 t d = iblk m c 5 t :=
  before0_5_of m (scanData m 0 c) (scanData_A m c 5) (fun _ => by dsimp only [scanData]) t d

/-- The region's invariant, with the three scratch buffers as memrefs owned at some contents. -/
theorem invariant_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-- What the body is called with at point `t`. -/
def pointPre (c : Dev nD) (t : Fin cfg0.N) : sProp 𝕄 :=
  iprop((scanData m 0 c).Φ t.castSucc ∗ (scanData m 0 c).owesAt () t.castSucc
    ∗ (∃ d, owns (c : Thread nD τ) (tileRef0 t) fullShare ((scanData m 0 c).before 0 t d))
    ∗ (∃ d, owns (c : Thread nD τ) (tileRef1 t) fullShare ((scanData m 0 c).before 1 t d))
    ∗ (∃ d, owns (c : Thread nD τ) (tileRef2 t) fullShare ((scanData m 0 c).before 2 t d))
    ∗ (∃ d, owns (c : Thread nD τ) (tileRef3 t) fullShare ((scanData m 0 c).before 3 t d))
    ∗ (∃ d, owns (c : Thread nD τ) (tileRef4 t) fullShare ((scanData m 0 c).before 4 t d))
    ∗ (∃ d, owns (c : Thread nD τ) (tileRef5 t) fullShare ((scanData m 0 c).before 5 t d))
    ∗ (∃ d, owns (c : Thread nD τ) (tileRef6 t) fullShare d))

/-- What it gives back. -/
def pointPost (c : Dev nD) (t : Fin cfg0.N) : sProp 𝕄 :=
  iprop((scanData m 0 c).Φ t.succ ∗ (scanData m 0 c).owesAt () t.succ
    ∗ owns (c : Thread nD τ) (tileRef0 t) fullShare ((scanData m 0 c).after 0 t)
    ∗ owns (c : Thread nD τ) (tileRef1 t) fullShare ((scanData m 0 c).after 1 t)
    ∗ owns (c : Thread nD τ) (tileRef2 t) fullShare ((scanData m 0 c).after 2 t)
    ∗ owns (c : Thread nD τ) (tileRef3 t) fullShare ((scanData m 0 c).after 3 t)
    ∗ owns (c : Thread nD τ) (tileRef4 t) fullShare ((scanData m 0 c).after 4 t)
    ∗ owns (c : Thread nD τ) (tileRef5 t) fullShare ((scanData m 0 c).after 5 t)
    ∗ (∃ d, owns (c : Thread nD τ) (tileRef6 t) fullShare d))

/-- The body at point `t`, on the buffers the pipeline calls it with. -/
abbrev bodyAt (t : Fin cfg0.N) : Prog (TpuEff nD τ sig (Elt F) Λ₀ .tc) PUnit :=
  cc0_s5_chunked (grid0.coords t) (tileRef0 t) (tileRef0_whole t) (tileRef1 t) (tileRef1_whole t) (tileRef2 t) (tileRef2_whole t) (tileRef3 t) (tileRef3_whole t) (tileRef4 t) (tileRef4_whole t) (tileRef5 t) (tileRef5_whole t) (tileRef6 t) (tileRef6_whole t)
    (Memref.whole cc0_scratch0) (Memref.isWhole_whole _) (Memref.whole cc0_scratch1) (Memref.isWhole_whole _) (Memref.whole cc0_scratch2) (Memref.isWhole_whole _)

set_option maxHeartbeats 1200000 in
/-- The body at any point: it is run from the blocks, whatever the output tile and the scratch hold. -/
theorem point (c : Dev nD) (t : Fin cfg0.N) :
    pointPre m c t ⊢ wp frame (wpE (defs₀ (F := F)) Variants.none c none) Set.univ (bodyAt t) (fun _ => pointPost m c t) := by
  unfold pointPre pointPost bodyAt
  simp only [before_0, before_1, before_2, before_3, before_4, before_5]
  rw [show (scanData m 0 c).Φ t.succ = Pipeline.ΦA spec0 c from rfl,
    show (scanData m 0 c).owesAt () t.succ = (scanData m 0 c).owesAt () t.castSucc from rfl]
  rw [show (scanData m 0 c).Φ t.castSucc = Pipeline.ΦA spec0 c from rfl, invariant_eq]
  rw [show (scanData m 0 c).after 0 t = iblk m c 0 t from by dsimp only [scanData]]
  rw [show (scanData m 0 c).after 1 t = iblk m c 1 t from by dsimp only [scanData]]
  rw [show (scanData m 0 c).after 2 t = iblk m c 2 t from by dsimp only [scanData]]
  rw [show (scanData m 0 c).after 3 t = iblk m c 3 t from by dsimp only [scanData]]
  rw [show (scanData m 0 c).after 4 t = iblk m c 4 t from by dsimp only [scanData]]
  rw [show (scanData m 0 c).after 5 t = iblk m c 5 t from by dsimp only [scanData]]
  unfold owns
  iintro ⟨⟨⟨⟨%e9, %f9, -, S9⟩, ⟨%e10, %f10, -, S10⟩, ⟨%e11, %f11, -, S11⟩⟩, Hg⟩, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, -, H6⟩⟩
  iapply wp_wand_r
  isplitl [H0 H1 H2 H3 H4 H5 H6 S9 S10 S11]
  · iapply ((bodyRun (F := F) Variants.none c none (grid0.coords t) (tileRef0 t) (tileRef0_whole t) (tileRef1 t) (tileRef1_whole t) (tileRef2 t) (tileRef2_whole t) (tileRef3 t) (tileRef3_whole t) (tileRef4 t) (tileRef4_whole t) (tileRef5 t) (tileRef5_whole t) (tileRef6 t) (tileRef6_whole t) (Memref.whole cc0_scratch0) (Memref.isWhole_whole _) (Memref.whole cc0_scratch1) (Memref.isWhole_whole _) (Memref.whole cc0_scratch2) (Memref.isWhole_whole _)
      f0 f1 f2 f3 f4 f5 f6 f9 f10 f11).2 Set.univ)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S9]; · iexact S9
    isplitl [S10]; · iexact S10
    iexact S11
  iintro %v ⟨H0, H1, H2, H3, H4, H5, H6, S9, S10, S11⟩
  isplitl [S9 S10 S11 Hg]
  · isplitl [S9 S10 S11]
    · isplitl [S9]; · iexists _; iexists _; isplitr; (swap; · iexact S9); ipureintro; rfl
      isplitl [S10]; · iexists _; iexists _; isplitr; (swap; · iexact S10); ipureintro; rfl
      iexists _; iexists _; isplitr; (swap; · iexact S11); ipureintro; rfl
    iexact Hg
  isplitl [Ho]; · iexact Ho
  isplitl [H0]; · iexists f0; isplitr; (swap; · iexact H0); ipureintro; exact h0
  isplitl [H1]; · iexists f1; isplitr; (swap; · iexact H1); ipureintro; exact h1
  isplitl [H2]; · iexists f2; isplitr; (swap; · iexact H2); ipureintro; exact h2
  isplitl [H3]; · iexists f3; isplitr; (swap; · iexact H3); ipureintro; exact h3
  isplitl [H4]; · iexists f4; isplitr; (swap; · iexact H4); ipureintro; exact h4
  isplitl [H5]; · iexists f5; isplitr; (swap; · iexact H5); ipureintro; exact h5
  iexists _; iexists _; isplitr; (swap; · iexact H6); ipureintro; rfl

/-- The body table's row at point `t`'s buffers is the body as `bodyAt` spells it. -/
theorem row_eq (t : Fin cfg0.N) :
    defs₀ (F := F) .tc cfg0.body (cfg0.bodyArgs t (cfg0.slots t)) = bodyAt t := by
  unfold defs₀; rw [Defs.onTc_tc]

/-- The obligation of the body at every point. -/
theorem obligation (c : Dev nD) : Pipeline.BodyObligation (scanData (F := F) m 0 c) (defs₀ (F := F)) Variants.none () Set.univ openWindow := fun t => by
  rw [bigSep_W0, bigSep_W0, row_eq]
  exact triple_restated (point m c t) rfl .rfl fun _ => .rfl

set_option backward.isDefEq.respectTransparency.types false in
/-- The launch runs to the end, the inputs as they were found, every semaphore at zero. -/
theorem launch : θ_run defs (onTc (τ := τ) (main (F := F))) (s₀ m ρ)
    (fun r => (Pipeline.RDat.FramePost (cfgs 0) (fun c => (scanData m 0 c).toRForget openWindow) (V m)) r ∧ r.2.sem = fun _ => 0) :=
  Pipeline.θ_run_frame_forget (Q' := _) cfgs (scanData m) (0 : Fin 1) launch0 defs₀ Variants.none openWindow m ρ main
    (hbody := fun c => (obligation m c).loose) (hshare := fun c => (scanData m 0 c).share_full fun _ => rfl)
    (howed := fun _ _ => rfl) (V := V m) (hmain := hmain m Variants.none) (hA := scanData_A m) (hΦ := fun _ _ => rfl)

/-- The chunked scan kernel runs from any memory, its arguments end unchanged, every semaphore is at zero again. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨
      ((Pipeline.RDat.FramePost.arr_in h.1 c 0 rfl).trans (scanData_A m c 0)).trans (V_main_arg0 m c),
      ((h.1 c).2 main_arg1 (Pipeline.mem_restRefs_of main_arg1 (by decide) (by decide))).trans (V_main_arg1 m c),
      ((Pipeline.RDat.FramePost.arr_in h.1 c 2 rfl).trans (scanData_A m c 2)).trans (V_main_arg2 m c),
      ((Pipeline.RDat.FramePost.arr_in h.1 c 3 rfl).trans (scanData_A m c 3)).trans (V_main_arg3 m c),
      ((Pipeline.RDat.FramePost.arr_in h.1 c 4 rfl).trans (scanData_A m c 4)).trans (V_main_arg4 m c),
      ((Pipeline.RDat.FramePost.arr_in h.1 c 5 rfl).trans (scanData_A m c 5)).trans (V_main_arg5 m c)⟩, h.2⟩) (launch m ρ)

end Cert.Proof.S5

end
-- ==== Proof.TailRow.lean ====
/-
  What the end of the layer computes of ONE TOKEN, over the extended reals: from the token's row of each branch (the residual
  input `x`, the state-space output `y`, the attention output, their two gates `za`, `zb` and the merge gate `g`) and the
  parameters, the token's row of the layer's result. Both programs are read as this function, row by row.
-/
module

public import proofs.«01_k».proof.Defs
public import Idealize.ShloMosaic.Lib.Pointwise

@[expose] public section

noncomputable section

namespace Cert.TailRow

open Idealize.ShloMosaic

/-- A float literal of width 32, as an extended real. -/
abbrev lit (w : BitVec 32) : EReal := Ideal.ofBits .f32 w

/-- The gaussian-error unit by its hyperbolic-tangent formula. -/
def gelu (v : EReal) : EReal :=
  v * (lit 0x3F000000#32 * (lit 0x3F800000#32 + Ideal.tanh (lit 0x3F4C422A#32 * (v + lit 0x3D372713#32 * (v * v * v)))))

/-- `v` times its sigmoid. -/
def silu (v : EReal) : EReal := v * Ideal.logistic v

/-- The gated linear unit's projection, before the gate: `gelu y` times the weights, plus the bias. -/
def proj (wg : Fin 512 → Fin 1024 → EReal) (bg : Fin 1024 → EReal) (y : Fin 512 → EReal) (k : Fin 1024) : EReal :=
  (∑ j : Fin 512, gelu (y j) * wg j k) + bg k

/-- The state-space branch as it enters its output projection: the gated linear unit times the branch's gate. -/
def gated (wg : Fin 512 → Fin 1024 → EReal) (bg : Fin 1024 → EReal) (y za : Fin 512 → EReal) (j : Fin 512) : EReal :=
  proj wg bg y ⟨j, by omega⟩ * Ideal.logistic (proj wg bg y ⟨512 + j, by omega⟩) * silu (za j)

/-- The two branches, projected, merged by the two halves of the merge gate. -/
def merged (wg : Fin 512 → Fin 1024 → EReal) (bg : Fin 1024 → EReal) (ws wa : Fin 512 → Fin 1024 → EReal)
    (y attn za zb : Fin 512 → EReal) (g : Fin 2048 → EReal) (l : Fin 1024) : EReal :=
  Ideal.logistic (g ⟨l, by omega⟩) * (∑ j : Fin 512, gated wg bg y za j * ws j l)
    + Ideal.logistic (g ⟨1024 + l, by omega⟩) * (∑ j : Fin 512, attn j * silu (zb j) * wa j l)

/-- The token's row of the result: the residual input plus the merged branches through the last projection. -/
def out (wg : Fin 512 → Fin 1024 → EReal) (bg : Fin 1024 → EReal) (ws wa : Fin 512 → Fin 1024 → EReal)
    (wo : Fin 1024 → Fin 1024 → EReal) (x : Fin 1024 → EReal) (y attn za zb : Fin 512 → EReal) (g : Fin 2048 → EReal)
    (k : Fin 1024) : EReal :=
  x k + ∑ l : Fin 1024, merged wg bg ws wa y attn za zb g l * wo l k

/-- The literal one. -/
theorem lit_one : lit 0x3F800000#32 = 1 := by simp [lit, Ideal.ofBits, Ideal.ieee, -EReal.coe_mul]; norm_num

/-- The literal one half. -/
theorem lit_half : lit 0x3F000000#32 = ((1 / 2 : ℝ) : EReal) := by simp [lit, Ideal.ofBits, Ideal.ieee, -EReal.coe_mul]; norm_num

/-- The literal zero. -/
theorem lit_zero : lit 0x00000000#32 = 0 := by simp [lit, Ideal.ofBits, Ideal.ieee]

/-- The reference's sigmoid, `1 / (1 + exp (-v))`, is the logistic function at every extended real. -/
theorem logistic_quotient (v : EReal) :
    Ideal.div (lit 0x3F800000#32) (lit 0x3F800000#32 + Ideal.exp (-v)) = Ideal.logistic v := by
  rw [lit_one]; rfl

/-- On the reals: half the hyperbolic tangent of half the argument, plus a half, is the logistic function. -/
theorem logistic_real (r : ℝ) : 1 / 2 * Real.tanh (1 / 2 * r) + 1 / 2 = (1 + Real.exp (-r))⁻¹ := by
  have e : Real.exp (-r) = Real.exp (-(1 / 2 * r)) * Real.exp (-(1 / 2 * r)) := by
    rw [← Real.exp_add]; congr 1; ring
  have h : Real.exp (1 / 2 * r) * Real.exp (-(1 / 2 * r)) = 1 := by rw [← Real.exp_add]; simp
  have p := Real.exp_pos (1 / 2 * r)
  have q := Real.exp_pos (-(1 / 2 * r))
  rw [Real.tanh_eq_sinh_div_cosh, Real.sinh_eq, Real.cosh_eq, e]
  generalize Real.exp (1 / 2 * r) = a at *
  generalize Real.exp (-(1 / 2 * r)) = b at *
  have : a = b⁻¹ := eq_inv_of_mul_eq_one_left h
  subst this
  field_simp
  ring

/-- The kernel's sigmoid, by the hyperbolic tangent of half its argument, is the logistic function at every extended real. -/
theorem logistic_tanh (v : EReal) :
    lit 0x3F000000#32 * Ideal.tanh (lit 0x3F000000#32 * v) + lit 0x3F000000#32 = Ideal.logistic v := by
  rw [lit_half]
  induction v using EReal.rec with
  | bot =>
    rw [EReal.coe_mul_bot_of_pos (by norm_num), Ideal.tanh_bot, Ideal.logistic_bot, ← EReal.coe_one, ← EReal.coe_neg,
      ← EReal.coe_mul, ← EReal.coe_add, ← EReal.coe_zero]
    norm_num
  | top =>
    rw [EReal.coe_mul_top_of_pos (by norm_num), Ideal.tanh_top, Ideal.logistic_top, ← EReal.coe_one,
      ← EReal.coe_mul, ← EReal.coe_add]
    norm_num
  | coe r =>
    rw [← EReal.coe_mul, Ideal.tanh_coe, Ideal.logistic_coe, ← EReal.coe_mul, ← EReal.coe_add, logistic_real]

end Cert.TailRow

end
-- ==== Proof.TailPayload.lean ====
/-
  The values the body of the layer's end computes, read at an index over the ideal reals: the un-rotation of a lane tile, the
  gated linear unit, the two projected branches and the stored block.
-/
module

public import proofs.«01_k».proof.Proof.TailRow
public import proofs.«01_k».proof.Proof.Gen.TailIdeal.Frame

@[expose] public section

set_option maxRecDepth 16384

noncomputable section

namespace Cert.TailPayload

open Idealize.ShloMosaic Idealize.SL.Sem Cert.TailIdeal Cert.TailIdeal.Gen Cert.TailRow

/-- The row number's residue modulo four, as the body computes it. -/
theorem residue (r : Fin 512) (l : Fin 128) : k0_pay3 (ix2 r l) = BitVec.ofNat 32 (r.val % 4) := by
  have h : ∀ r : Fin 512, k0_pay3 (ix2 r 0) = BitVec.ofNat 32 (r.val % 4) := by
    unfold k0_pay3; pointwise; decide +kernel
  exact h r

/-- A lane tile with each row turned back by 32 lanes times the row's residue modulo four. -/
theorem unrotate_apply (v : Vec Ideal S1x512x128 .f32) (r : Fin 512) (l : Fin 128) :
    k0_pay7 v (ix2 r l) = v (ix3 0 r ⟨(l.val + 32 * (r.val % 4)) % 128, Nat.mod_lt _ (by decide)⟩) := by
  have e : k0_pay7 v (ix2 r l)
      = Scalar.select (IntOp.cmpi .eq (k0_pay3 (ix2 r l)) 3#32)
          (dynamicRotate 1 32#32 none (k0_pay2 v) rotates_S512x128_d1 (ix2 r l))
          (Scalar.select (IntOp.cmpi .eq (k0_pay3 (ix2 r l)) 2#32)
            (dynamicRotate 1 64#32 none (k0_pay2 v) rotates_S512x128_d1 (ix2 r l))
            (Scalar.select (IntOp.cmpi .eq (k0_pay3 (ix2 r l)) 1#32)
              (dynamicRotate 1 96#32 none (k0_pay2 v) rotates_S512x128_d1 (ix2 r l)) (k0_pay2 v (ix2 r l)))) := rfl
  rw [e, residue]
  have hr : r.val % 4 < 4 := Nat.mod_lt _ (by decide)
  generalize r.val % 4 = q at hr ⊢
  unfold k0_pay2
  interval_cases q <;> pointwise
  · show v (ix3 0 r l) = _
    exact congrArg (fun l => v (ix3 0 r l)) (Fin.ext (Nat.mod_eq_of_lt l.isLt).symm)
  · show v (ix3 0 r ⟨(l.val + 128 - 96) % 128, _⟩) = _
    exact congrArg (fun l => v (ix3 0 r l)) (Fin.ext (show (l.val + 128 - 96) % 128 = (l.val + 32) % 128 by omega))
  · show v (ix3 0 r ⟨(l.val + 128 - 64) % 128, _⟩) = _
    exact congrArg (fun l => v (ix3 0 r l)) (Fin.ext (show (l.val + 128 - 64) % 128 = (l.val + 64) % 128 by omega))
  · exact congrArg (fun l => v (ix3 0 r l)) (Fin.ext (show (l.val + 128 - 32) % 128 = (l.val + 96) % 128 by omega))

/-- The four un-rotated lane tiles side by side. -/
def wide (v0 v1 v2 v3 : Vec Ideal S1x512x128 .f32) : FVec Ideal S512x512 .f32 :=
  concatenate S512x512 1 [⟨S512x128, k0_pay7 v0⟩, ⟨S512x128, k0_pay7 v1⟩, ⟨S512x128, k0_pay7 v2⟩, ⟨S512x128, k0_pay7 v3⟩]
    concatenates_S512x128_S512x128_S512x128_S512x128_S512x512_d1

/-- What the gated linear unit computes of the state-space row block. -/
def glu (w : FVec Ideal S512x512 .f32) (wg : Vec Ideal S512x1024 .bf16) (bg : Vec Ideal S1x1024 .f32) :
    FVec Ideal S512x1024 .f32 :=
  addf (matmul dot_S512x512_S512x1024_S512x1024_1_0_0_1_n_n none
      (truncf .bf16 (mulf w (mulf (broadcast S512x512 (Scalar.ofBits .f32 0x3F000000#32))
        (addf (broadcast S512x512 (Scalar.ofBits .f32 0x3F800000#32))
          (tanh (mulf (broadcast S512x512 (Scalar.ofBits .f32 0x3F4C422A#32))
            (addf w (mulf (broadcast S512x512 (Scalar.ofBits .f32 0x3D372713#32)) (mulf w (mulf w w))))))))) bitsLt_bf16_f32)
      (shapeCast S512x1024 wg shapeCasts_S512x1024_S512x1024 : FVec Ideal S512x1024 .bf16) (constant S512x1024 .f32 0x00000000#32))
    (broadcastTo S512x1024 (shapeCast S1x1024 bg shapeCasts_S1x1024_S1x1024) broadcasts_S1x1024_S512x1024)

/-- The body's spelling of the gated linear unit over the four loaded lane tiles. -/
theorem glu_eq (v0 v1 v2 v3 : Vec Ideal S1x512x128 .f32) (wg : Vec Ideal S512x1024 .bf16) (bg : Vec Ideal S1x1024 .f32) :
    k0_pay13 (k0_pay6 (k0_pay2 v0) (k0_pay4 v0) k0_pay5) (k0_pay7 v1)
        (k0_pay9 (k0_pay8 v2) (iota .tc S512x128 32 [0] iota_S512x128_d0_w32)
          (Scalar.select (Scalar.cmpi .eq 4#32 0#32) 1#32 4#32))
        (k0_pay10 v3) (Scalar.select (Scalar.cmpi .eq 4#32 0#32) 1#32 4#32) k0_pay11 k0_pay12 wg bg
      = glu (wide v0 v1 v2 v3) wg bg := rfl

/-- One row of the four tiles side by side: lane `l` of tile `n` is column `128 n + l`. -/
theorem wide_apply (v0 v1 v2 v3 : Vec Ideal S1x512x128 .f32) (r : Fin 512) (y : Fin 512 → EReal)
    (h0 : ∀ l : Fin 128, v0 (ix3 0 r ⟨(l.val + 32 * (r.val % 4)) % 128, Nat.mod_lt _ (by decide)⟩) = y ⟨l, by omega⟩)
    (h1 : ∀ l : Fin 128, v1 (ix3 0 r ⟨(l.val + 32 * (r.val % 4)) % 128, Nat.mod_lt _ (by decide)⟩) = y ⟨128 + l, by omega⟩)
    (h2 : ∀ l : Fin 128, v2 (ix3 0 r ⟨(l.val + 32 * (r.val % 4)) % 128, Nat.mod_lt _ (by decide)⟩) = y ⟨256 + l, by omega⟩)
    (h3 : ∀ l : Fin 128, v3 (ix3 0 r ⟨(l.val + 32 * (r.val % 4)) % 128, Nat.mod_lt _ (by decide)⟩) = y ⟨384 + l, by omega⟩)
    (j : Fin 512) : wide v0 v1 v2 v3 (ix2 r j) = y j := by
  unfold wide
  pointwise [unrotate_apply]
  split
  · exact h0 ⟨j, by omega⟩
  split
  · exact (h1 ⟨j - 128, by omega⟩).trans (congrArg y (Fin.ext (by simp only []; omega)))
  split
  · exact (h2 ⟨j - 128 - 128, by omega⟩).trans (congrArg y (Fin.ext (by simp only []; omega)))
  · exact (h3 ⟨j - 128 - 128 - 128, by omega⟩).trans (congrArg y (Fin.ext (by simp only []; omega)))

/-- The GLU layer of a block, read at an index. -/
theorem glu_apply (w : FVec Ideal S512x512 .f32) (wg : Vec Ideal S512x1024 .bf16) (bg : Vec Ideal S1x1024 .f32)
    (r : Fin 512) (k : Fin 1024) :
    glu w wg bg (ix2 r k)
      = proj (fun j k => wg (ix2 j k)) (fun k => bg (ix2 0 k)) (fun j => w (ix2 r j)) k := by
  have e : ∀ v : EReal, v * v * v = v * (v * v) := fun v => mul_comm _ _
  unfold glu proj gelu
  simp only [e]
  pointwise

/-- The state-space branch, projected. -/
theorem ssm_apply (p : FVec Ideal S512x1024 .f32) (za : Vec Ideal S512x512 .bf16) (ws : Vec Ideal S512x1024 .bf16)
    (r : Fin 512) (l : Fin 1024) :
    k0_pay16 p za ws (ix2 r l)
      = ∑ j : Fin 512, p (ix2 r ⟨j, by omega⟩) * Ideal.logistic (p (ix2 r ⟨512 + j, by omega⟩)) * silu (za (ix2 r j))
          * ws (ix2 j l) := by
  unfold k0_pay16 silu
  pointwise [logistic_tanh]

/-- The attention branch, projected. -/
theorem attn_apply (zb attn : Vec Ideal S512x512 .bf16) (wa : Vec Ideal S512x1024 .bf16) (r : Fin 512) (l : Fin 1024) :
    k0_pay15 (k0_pay14 zb) attn wa (ix2 r l) = ∑ j : Fin 512, attn (ix2 r j) * silu (zb (ix2 r j)) * wa (ix2 j l) := by
  unfold k0_pay15 k0_pay14 silu
  pointwise [logistic_tanh]

/-- The stored block. -/
theorem out_apply (yb ya : FVec Ideal S512x1024 .f32) (g : Vec Ideal S512x2048 .bf16) (x : Vec Ideal S512x1024 .f32)
    (wo : Vec Ideal S1024x1024 .bf16) (r : Fin 512) (k : Fin 1024) :
    k0_pay1 yb ya g x wo (ix2 r k)
      = x (ix2 r k) + ∑ l : Fin 1024, (Ideal.logistic (g (ix2 r ⟨l, by omega⟩)) * ya (ix2 r l)
          + Ideal.logistic (g (ix2 r ⟨1024 + l, by omega⟩)) * yb (ix2 r l)) * wo (ix2 l k) := by
  unfold k0_pay1
  pointwise [logistic_tanh]

end Cert.TailPayload

end
-- ==== Proof.TailBlock.lean ====
/-
  What one grid point of the layer's end leaves in its output block: the payload of the point's input blocks, and each row of
  it `TailRow.out` of the blocks' rows.
-/
module

public import proofs.«01_k».proof.Proof.TailPayload
public import Idealize.ShloMosaic.Lib.Pipeline.Value

@[expose] public section

set_option maxRecDepth 16384

noncomputable section

namespace Cert.TailBlock

open Idealize.ShloMosaic Idealize.SL.Sem Cert.TailIdeal Cert.TailIdeal.Gen Cert.TailRow Cert.TailPayload
open Idealize.ShloMosaic.TcCoe

/-- Rows `off 1 + 8 r` of the lane tile `off 0` of the state-space block, as the body loads them. -/
def rows (x1 : Vec Ideal S4x4096x128 .f32) (off : Fin 3 → Nat)
    (inb : ∀ a, S1x512x128.size a = 0 ∨ off a + (![1, 8, 1] : Fin 3 → Nat) a * (S1x512x128.size a - 1) < S4x4096x128.size a) :
    Vec Ideal S1x512x128 .f32 := fun x =>
  x1 ((⟨off, S1x512x128.size, ![1, 8, 1], inb⟩ : LoadRect S4x4096x128).idx x)

/-- The block the body stores, of the point's input blocks. -/
def block (i : grid0.Coords) (x0 : Vec Ideal S512x1024 .f32) (x1 : Vec Ideal S4x4096x128 .f32)
    (x2 x3 x4 : Vec Ideal S512x512 .bf16) (x5 : Vec Ideal S512x2048 .bf16) (x6 : Vec Ideal S512x1024 .bf16)
    (x7 : Vec Ideal S1x1024 .f32) (x8 x9 : Vec Ideal S512x1024 .bf16) (x10 : Vec Ideal S1024x1024 .bf16) :
    Vec Ideal S512x1024 .f32 :=
  k0_pay1 (k0_pay15 (k0_pay14 x4) x3 x9)
    (k0_pay16 (glu (wide (rows x1 (k0_off1 i) (k0_off1_inb i)) (rows x1 (k0_off2 i) (k0_off2_inb i))
      (rows x1 (k0_off3 i) (k0_off3_inb i)) (rows x1 (k0_off4 i) (k0_off4_inb i))) x6 x7) x2 x8) x5 x0 x10

variable (m : (ℓ : Loc nD τ sig) → Buf (Elt Ideal) ℓ)

/-- The offset of a whole-block access is zero. -/
theorem zero2 : (![0, 0] : Fin 2 → Nat) = fun _ => 0 := funext fun a => by fin_cases a <;> rfl

/-- A load of a whole buffer's contents at given coordinates reads the contents there. -/
theorem load_at {κ : Kind} {sp : Space} {s : Shape} {e : EltTy} {a : Memref sig κ sp s e} (h : a.IsWhole)
    (r : LoadRect s) (x : s.Idx → Elt Ideal e) : a.view.readAt (Elt Ideal) r (h.unread x) = fun y => x (r.idx y) := by
  funext y; rw [View.readAt_apply, h.read_unread]

/-- A load of a whole buffer through the whole rectangle reads its contents. -/
theorem load_whole {κ : Kind} {sp : Space} {s : Shape} {e : EltTy} {a : Memref sig κ sp s e} (h : a.IsWhole)
    {off : Fin s.rank → Nat} (ho : off = fun _ => 0) (inb) (x : s.Idx → Elt Ideal e) :
    a.view.readAt (Elt Ideal) (Rect.unit off s.size inb).toLoadRect (h.unread x) = x := by
  rw [View.readAt_eq_ld, h.read_unread, View.ld_unit_zero ho]

/-- What the body leaves in its output block at a grid point. -/
theorem outsAt_eq (c : Dev nD) (t : Fin cfg0.N) :
    outsAt0 m c t = block (grid0.coords t) (iblk m c 0 t) (iblk m c 1 t) (iblk m c 2 t) (iblk m c 3 t) (iblk m c 4 t)
      (X0_5 m c t) (iblk m c 6 t) (iblk m c 7 t) (iblk m c 8 t) (iblk m c 9 t) (iblk m c 10 t) := by
  unfold outsAt0
  generalize iblk m c 0 t = x0
  generalize iblk m c 1 t = x1
  generalize iblk m c 2 t = x2
  generalize iblk m c 3 t = x3
  generalize iblk m c 4 t = x4
  generalize X0_5 m c t = x5
  generalize iblk m c 6 t = x6
  generalize iblk m c 7 t = x7
  generalize iblk m c 8 t = x8
  generalize iblk m c 9 t = x9
  generalize iblk m c 10 t = x10
  unfold out0_A_11
  rw [View.read_writes_eq_canon _ _ _ (cover0_A_11 c (grid0.coords t) _ _ _ _ _ _ _ _ _ _ _ _ _ _ _ _ _ _ _ _ _ _ _ _ x0 x1 x2 x3 x4 x5 x6 x7 x8 x9 x10)]
  unfold kernelRun0_A
  dsimp only
  sl_unfold_words
  rw [View.canon_unit_zero (S := S512x1024) zero2, load_whole (hs0_6 t) (s := S512x1024) zero2,
    load_whole (hs0_7 t) (s := S1x1024) zero2, load_whole (hs0_2 t) (s := S512x512) zero2,
    load_whole (hs0_8 t) (s := S512x1024) zero2, load_whole (hs0_5 t) (s := S512x2048) zero2,
    load_whole (hs0_0 t) (s := S512x1024) zero2, load_whole (hs0_10 t) (s := S1024x1024) zero2,
    load_whole (hs0_4 t) (s := S512x512) zero2, load_whole (hs0_3 t) (s := S512x512) zero2,
    load_whole (hs0_9 t) (s := S512x1024) zero2]
  simp only [load_at (hs0_1 t)]
  unfold block
  rw [← glu_eq]
  rfl

/-- The loads' offsets: lane tile `n`, and the point's batch `t % 8`. -/
theorem offs : ∀ t : Fin cfg0.N, k0_off1 (grid0.coords t) = ![0, t.val % 8, 0] ∧ k0_off2 (grid0.coords t) = ![1, t.val % 8, 0]
    ∧ k0_off3 (grid0.coords t) = ![2, t.val % 8, 0] ∧ k0_off4 (grid0.coords t) = ![3, t.val % 8, 0] :=
  (by decide +kernel : ∀ t : Fin grid0.N, _)

/-- A loaded lane tile's row `r` is row `b + 8 r` of the block's tile. -/
theorem rows_apply (x1 : Vec Ideal S4x4096x128 .f32) (off : Fin 3 → Nat) (inb) (n : Fin 4) (b : Nat) (hb : b < 8)
    (ho : off = ![n.val, b, 0]) (r : Fin 512) (l : Fin 128) :
    rows x1 off inb (ix3 0 r l) = x1 (ix3 n ⟨b + 8 * r.val, by omega⟩ l) := by
  subst ho
  refine congrArg x1 (funext fun a => Fin.ext ?_)
  fin_cases a
  · show n.val + 1 * 0 = n.val; omega
  · show b + 8 * r.val = _; rfl
  · show 0 + 1 * l.val = l.val; omega

/-- Row `r` of the stored block at point `t`. -/
theorem block_apply (t : Fin cfg0.N) (x0 : Vec Ideal S512x1024 .f32) (x1 : Vec Ideal S4x4096x128 .f32)
    (x2 x3 x4 : Vec Ideal S512x512 .bf16) (x5 : Vec Ideal S512x2048 .bf16) (x6 : Vec Ideal S512x1024 .bf16)
    (x7 : Vec Ideal S1x1024 .f32) (x8 x9 : Vec Ideal S512x1024 .bf16) (x10 : Vec Ideal S1024x1024 .bf16)
    (r : Fin 512) (y : Fin 512 → EReal)
    (hy : ∀ (n : Fin 4) (l : Fin 128), x1 (ix3 n ⟨t.val % 8 + 8 * r.val, by omega⟩
      ⟨(l.val + 32 * (r.val % 4)) % 128, Nat.mod_lt _ (by decide)⟩) = y ⟨128 * n.val + l.val, by omega⟩)
    (k : Fin 1024) :
    block (grid0.coords t) x0 x1 x2 x3 x4 x5 x6 x7 x8 x9 x10 (ix2 r k)
      = out (fun j k => x6 (ix2 j k)) (fun k => x7 (ix2 0 k)) (fun j k => x8 (ix2 j k)) (fun j k => x9 (ix2 j k))
          (fun j k => x10 (ix2 j k)) (fun k => x0 (ix2 r k)) y (fun j => x3 (ix2 r j)) (fun j => x2 (ix2 r j))
          (fun j => x4 (ix2 r j)) (fun l => x5 (ix2 r l)) k := by
  have hb : t.val % 8 < 8 := Nat.mod_lt _ (by decide)
  obtain ⟨o1, o2, o3, o4⟩ := offs t
  have hw : ∀ j : Fin 512, wide (rows x1 (k0_off1 (grid0.coords t)) (k0_off1_inb _)) (rows x1 (k0_off2 (grid0.coords t)) (k0_off2_inb _))
      (rows x1 (k0_off3 (grid0.coords t)) (k0_off3_inb _)) (rows x1 (k0_off4 (grid0.coords t)) (k0_off4_inb _)) (ix2 r j) = y j := by
    intro j
    refine wide_apply _ _ _ _ r y (fun l => ?_) (fun l => ?_) (fun l => ?_) (fun l => ?_) j
    · exact (rows_apply x1 _ _ 0 _ hb o1 r _).trans ((hy 0 l).trans (congrArg y (Fin.ext (by simp))))
    · exact (rows_apply x1 _ _ 1 _ hb o2 r _).trans (hy 1 l)
    · exact (rows_apply x1 _ _ 2 _ hb o3 r _).trans (hy 2 l)
    · exact (rows_apply x1 _ _ 3 _ hb o4 r _).trans (hy 3 l)
  unfold block out merged gated
  rw [out_apply]
  simp only [attn_apply, ssm_apply, glu_apply, hw]

end Cert.TailBlock

end
-- ==== Proof.TailHost.lean ====
/-
  What the host code before the call of the layer's end leaves in the call's operands, read at an index: the lane-rotated
  token-major copy of the state-space output, the three arrays side by side and the reshaped or broadcast others.
-/
module

public import proofs.«01_k».proof.Proof.Gen.TailIdeal.Frame
public import Idealize.ShloMosaic.Lib.Pointwise
public import Idealize.ShloMosaic.Lib.Pipeline.Value

@[expose] public section

set_option maxRecDepth 16384

noncomputable section

namespace Cert.TailHost

open Idealize.ShloMosaic Idealize.SL.Sem Cert.TailIdeal Cert.TailIdeal.Gen
open Idealize.ShloMosaic.TcCoe

local notation "A" s:max => FVec Ideal s FTy.f32

variable (m : (ℓ : Loc nD τ sig) → Buf (Elt Ideal) ℓ)

/-- What the host code computes for this operand of the call. -/
theorem V_v35 (c : Dev nD) : (V m c main_v35 : A S16384x1024)
    = shapeCast S16384x1024 (m ((c : Thread nD τ).loc main_arg0) : A S8x2048x1024) shapeCasts_S8x2048x1024_S16384x1024 := by
  unfold V; after_results_simp; rfl

/-- What the host code computes for this operand of the call. -/
theorem V_v37 (c : Dev nD) : V m c main_v37
    = (truncf .bf16 (shapeCast S16384x512 (m ((c : Thread nD τ).loc main_arg2) : A S8x2048x512) shapeCasts_S8x2048x512_S16384x512)
        bitsLt_bf16_f32 : FVec Ideal S16384x512 .bf16) := by
  unfold V; after_results_simp; rfl

/-- What the host code computes for this operand of the call. -/
theorem V_v38 (c : Dev nD) : V m c main_v38
    = (truncf .bf16 (m ((c : Thread nD τ).loc main_arg6) : A S512x1024) bitsLt_bf16_f32 : FVec Ideal S512x1024 .bf16) := by
  unfold V; after_results_simp

/-- What the host code computes for this operand of the call. -/
theorem V_v39 (c : Dev nD) : V m c main_v39
    = (broadcastInDim S1x1024 ![1] bcast_S1024_S1x1024_1 (m ((c : Thread nD τ).loc main_arg7) : A S1024) : A S1x1024) := by
  unfold V; after_results_simp

/-- What the host code computes for this operand of the call. -/
theorem V_v40 (c : Dev nD) : V m c main_v40
    = (truncf .bf16 (m ((c : Thread nD τ).loc main_arg8) : A S512x1024) bitsLt_bf16_f32 : FVec Ideal S512x1024 .bf16) := by
  unfold V; after_results_simp

/-- What the host code computes for this operand of the call. -/
theorem V_v41 (c : Dev nD) : V m c main_v41
    = (truncf .bf16 (m ((c : Thread nD τ).loc main_arg9) : A S512x1024) bitsLt_bf16_f32 : FVec Ideal S512x1024 .bf16) := by
  unfold V; after_results_simp

/-- What the host code computes for this operand of the call. -/
theorem V_v42 (c : Dev nD) : V m c main_v42
    = (truncf .bf16 (m ((c : Thread nD τ).loc main_arg10) : A S1024x1024) bitsLt_bf16_f32 : FVec Ideal S1024x1024 .bf16) := by
  unfold V; after_results_simp

/-- The three projected arrays side by side. -/
def side (g : A S8x2048x2048) (za zb : A S8x2048x512) : FVec Ideal S16384x3072 .bf16 :=
  concatenate S16384x3072 1
    [⟨S16384x2048, (truncf .bf16 (shapeCast S16384x2048 g shapeCasts_S8x2048x2048_S16384x2048) bitsLt_bf16_f32 :
        FVec Ideal S16384x2048 .bf16)⟩,
     ⟨S16384x512, (truncf .bf16 (shapeCast S16384x512 za shapeCasts_S8x2048x512_S16384x512) bitsLt_bf16_f32 :
        FVec Ideal S16384x512 .bf16)⟩,
     ⟨S16384x512, (truncf .bf16 (shapeCast S16384x512 zb shapeCasts_S8x2048x512_S16384x512) bitsLt_bf16_f32 :
        FVec Ideal S16384x512 .bf16)⟩]
    concatenates_S16384x2048_S16384x512_S16384x512_S16384x3072_d1

/-- What the host code computes for this operand of the call. -/
theorem V_v34 (c : Dev nD) : V m c main_v34
    = side (m ((c : Thread nD τ).loc main_arg5)) (m ((c : Thread nD τ).loc main_arg3)) (m ((c : Thread nD τ).loc main_arg4)) := by
  unfold V; after_results_simp; rfl

/-- The state-space output's rows turned by 32 lanes times the token's residue modulo four, within each lane tile; `none'` is
    the piece of no lanes that the rows of residue zero begin with. -/
def turned (none' : A S8x512x4x0) (y : A S8x2048x512) : A S8x512x4x4x128 :=
  have v : A S8x512x4x4x128 := shapeCast S8x512x4x4x128 y shapeCasts_S8x2048x512_S8x512x4x4x128
  have r0 : A S8x512x4x128 := concatenate S8x512x4x128 3
    [⟨S8x512x4x0, none'⟩,
     ⟨S8x512x4x128, shapeCast S8x512x4x128 (extractStridedSlice S8x512x1x4x128 ![0, 0, 0, 0, 0] v slices_S8x512x4x4x128_S8x512x1x4x128_0_0_0_0_0) shapeCasts_S8x512x1x4x128_S8x512x4x128⟩]
    concatenates_S8x512x4x0_S8x512x4x128_S8x512x4x128_d3
  have r1 : A S8x512x4x128 := concatenate S8x512x4x128 3
    [⟨S8x512x4x32, shapeCast S8x512x4x32 (extractStridedSlice S8x512x1x4x32 ![0, 0, 1, 0, 96] v slices_S8x512x4x4x128_S8x512x1x4x32_0_0_1_0_96) shapeCasts_S8x512x1x4x32_S8x512x4x32⟩,
     ⟨S8x512x4x96, shapeCast S8x512x4x96 (extractStridedSlice S8x512x1x4x96 ![0, 0, 1, 0, 0] v slices_S8x512x4x4x128_S8x512x1x4x96_0_0_1_0_0) shapeCasts_S8x512x1x4x96_S8x512x4x96⟩]
    concatenates_S8x512x4x32_S8x512x4x96_S8x512x4x128_d3
  have r2 : A S8x512x4x128 := concatenate S8x512x4x128 3
    [⟨S8x512x4x64, shapeCast S8x512x4x64 (extractStridedSlice S8x512x1x4x64 ![0, 0, 2, 0, 64] v slices_S8x512x4x4x128_S8x512x1x4x64_0_0_2_0_64) shapeCasts_S8x512x1x4x64_S8x512x4x64⟩,
     ⟨S8x512x4x64, shapeCast S8x512x4x64 (extractStridedSlice S8x512x1x4x64 ![0, 0, 2, 0, 0] v slices_S8x512x4x4x128_S8x512x1x4x64_0_0_2_0_0) shapeCasts_S8x512x1x4x64_S8x512x4x64⟩]
    concatenates_S8x512x4x64_S8x512x4x64_S8x512x4x128_d3
  have r3 : A S8x512x4x128 := concatenate S8x512x4x128 3
    [⟨S8x512x4x96, shapeCast S8x512x4x96 (extractStridedSlice S8x512x1x4x96 ![0, 0, 3, 0, 32] v slices_S8x512x4x4x128_S8x512x1x4x96_0_0_3_0_32) shapeCasts_S8x512x1x4x96_S8x512x4x96⟩,
     ⟨S8x512x4x32, shapeCast S8x512x4x32 (extractStridedSlice S8x512x1x4x32 ![0, 0, 3, 0, 0] v slices_S8x512x4x4x128_S8x512x1x4x32_0_0_3_0_0) shapeCasts_S8x512x1x4x32_S8x512x4x32⟩]
    concatenates_S8x512x4x96_S8x512x4x32_S8x512x4x128_d3
  concatenate S8x512x4x4x128 2
    [⟨S8x512x1x4x128, broadcastInDim S8x512x1x4x128 ![0, 1, 3, 4] bcast_S8x512x4x128_S8x512x1x4x128_0_1_3_4 r0⟩,
     ⟨S8x512x1x4x128, broadcastInDim S8x512x1x4x128 ![0, 1, 3, 4] bcast_S8x512x4x128_S8x512x1x4x128_0_1_3_4 r1⟩,
     ⟨S8x512x1x4x128, broadcastInDim S8x512x1x4x128 ![0, 1, 3, 4] bcast_S8x512x4x128_S8x512x1x4x128_0_1_3_4 r2⟩,
     ⟨S8x512x1x4x128, broadcastInDim S8x512x1x4x128 ![0, 1, 3, 4] bcast_S8x512x4x128_S8x512x1x4x128_0_1_3_4 r3⟩]
    concatenates_S8x512x1x4x128_S8x512x1x4x128_S8x512x1x4x128_S8x512x1x4x128_S8x512x4x4x128_d2

/-- The piece of no lanes, as the host code takes it. -/
def noLanes (y : A S8x2048x512) : A S8x512x4x0 :=
  shapeCast S8x512x4x0 (extractStridedSlice S8x512x1x4x0 ![0, 0, 0, 0, 128]
    (shapeCast S8x512x4x4x128 y shapeCasts_S8x2048x512_S8x512x4x4x128 : A S8x512x4x4x128)
    slices_S8x512x4x4x128_S8x512x1x4x0_0_0_0_0_128) shapeCasts_S8x512x1x4x0_S8x512x4x0

/-- The turned rows, lane tile first and token-major. -/
def tokenMajor (y : A S8x2048x512) : A S4x16384x128 :=
  shapeCast S4x16384x128 (transpose S4x512x4x8x128 [3, 1, 2, 0, 4] (turned (noLanes y) y) transposes_S8x512x4x4x128_S4x512x4x8x128_3_1_2_0_4)
    shapeCasts_S4x512x4x8x128_S4x16384x128

/-- What the host code computes for this operand of the call. -/
theorem V_v27 (c : Dev nD) : V m c main_v27 = tokenMajor (m ((c : Thread nD τ).loc main_arg1)) := by
  unfold V; after_results_simp; rfl

/-- Merging batch and time of an array of width 1024, read at an index. -/
theorem flat_apply (b : Fin 8) (t : Fin 2048) (x : A S8x2048x1024) (k : Fin 1024) :
    shapeCast S16384x1024 x shapeCasts_S8x2048x1024_S16384x1024 (ix2 ⟨b * 2048 + t, by omega⟩ k) = x (ix3 b t k) := by
  pointwise

/-- Merging batch and time of an array of width 512, read at an index. -/
theorem flat512_apply (b : Fin 8) (t : Fin 2048) (x : A S8x2048x512) (j : Fin 512) :
    (truncf .bf16 (shapeCast S16384x512 x shapeCasts_S8x2048x512_S16384x512) bitsLt_bf16_f32 : FVec Ideal S16384x512 .bf16)
      (ix2 ⟨b * 2048 + t, by omega⟩ j) = x (ix3 b t j) := by
  pointwise

/-- The first 2048 lanes of the joined array are the merge gates. -/
theorem side_gate (g : A S8x2048x2048) (za zb : A S8x2048x512) (b : Fin 8) (t : Fin 2048) (l : Fin 2048) :
    side g za zb (ix2 ⟨b * 2048 + t, by omega⟩ ⟨l, by omega⟩) = g (ix3 b t l) := by
  unfold side; pointwise

/-- The next 512 lanes of the joined array are the state-space side gate. -/
theorem side_ssm (g : A S8x2048x2048) (za zb : A S8x2048x512) (b : Fin 8) (t : Fin 2048) (j : Fin 512) :
    side g za zb (ix2 ⟨b * 2048 + t, by omega⟩ ⟨2048 + j, by omega⟩) = za (ix3 b t j) := by
  unfold side; pointwise

/-- The last 512 lanes of the joined array are the attention side gate. -/
theorem side_attn (g : A S8x2048x2048) (za zb : A S8x2048x512) (b : Fin 8) (t : Fin 2048) (j : Fin 512) :
    side g za zb (ix2 ⟨b * 2048 + t, by omega⟩ ⟨2560 + j, by omega⟩) = zb (ix3 b t j) := by
  unfold side; pointwise
  have hj := j.isLt
  rw [dif_neg (by omega), dif_neg (by omega)]
  exact congrArg (fun j => zb (ix3 b t j)) (Fin.ext (by simp only []; omega))

/-- Cutting a 128-lane tile at `e` and swapping the pieces, read at an index. -/
theorem turned_apply (e : A S8x512x4x0) (y : A S8x2048x512) (b : Fin 8) (q : Fin 512) (ρ n : Fin 4) (l : Fin 128) :
    turned e y (ix5 b q ρ n l) = y (ix3 b ⟨4 * q + ρ, by omega⟩
      ⟨128 * n + (l.val + 128 - 32 * ρ) % 128, by have := Nat.mod_lt (l.val + 128 - 32 * ρ) (show 128 > 0 by decide); omega⟩) := by
  unfold turned; pointwise
  have hρ := ρ.isLt
  have hl := l.isLt
  have key : ∀ (a a' : Fin 2048) (c c' : Fin 512), a = a' → c = c' → y (ix3 b a c) = y (ix3 b a' c') := by
    rintro _ _ _ _ rfl rfl; rfl
  split
  · rw [dif_neg (Nat.not_lt_zero _)]
    exact key _ _ _ _ (Fin.ext (by simp only []; omega)) (Fin.ext (by simp only []; omega))
  split
  · split <;> exact key _ _ _ _ (Fin.ext (by simp only []; omega)) (Fin.ext (by simp only []; omega))
  split
  · split <;> exact key _ _ _ _ (Fin.ext (by simp only []; omega)) (Fin.ext (by simp only []; omega))
  · split <;> exact key _ _ _ _ (Fin.ext (by simp only []; omega)) (Fin.ext (by simp only []; omega))

/-- Laying the rotated tiles out by time and then batch, read at an index. -/
theorem tokenMajor_apply (y : A S8x2048x512) (b : Fin 8) (q : Fin 512) (ρ n : Fin 4) (l : Fin 128) :
    tokenMajor y (ix3 n ⟨(q * 4 + ρ) * 8 + b, by omega⟩ l) = turned (noLanes y) y (ix5 b q ρ n l) := by
  unfold tokenMajor; pointwise

end Cert.TailHost

end
-- ==== Proof.TailReference.lean ====
/-
  The reference of the layer's end, read at an index of its result: row `b * 2048 + t`, column `k` is `TailRow.out` of the
  arguments' rows at token `(b, t)`. The composed term of the run is cut at the intermediate arrays below.
-/
module

public import proofs.«01_k».proof.Proof.TailRow
public import proofs.«01_k».proof.Proof.Gen.TailReferenceIdeal.Run

@[expose] public section

set_option maxRecDepth 16384

noncomputable section

namespace Cert.TailReference

open Idealize.ShloMosaic Idealize.SL.Sem Cert.TailReferenceIdeal Cert.TailReferenceIdeal.Gen Cert.TailRow

local notation "A" s:max => FVec Ideal s FTy.f32

/-- The sigmoid of an array of 512 columns. -/
def sigmoid512 (v : A S8x2048x512) : A S8x2048x512 :=
  Host.divf (broadcastInDim S8x2048x512 ![] bcast_S_S8x2048x512 (constant S_ .f32 0x3F800000#32))
    (addf (broadcastInDim S8x2048x512 ![] bcast_S_S8x2048x512 (constant S_ .f32 0x3F800000#32)) (Host.exp (Host.negf v)))

/-- The sigmoid of an array of 1024 columns. -/
def sigmoid1024 (v : A S8x2048x1024) : A S8x2048x1024 :=
  Host.divf (broadcastInDim S8x2048x1024 ![] bcast_S_S8x2048x1024 (constant S_ .f32 0x3F800000#32))
    (addf (broadcastInDim S8x2048x1024 ![] bcast_S_S8x2048x1024 (constant S_ .f32 0x3F800000#32)) (Host.exp (Host.negf v)))

/-- `gelu` of the state-space output. -/
def geluArr (y : A S8x2048x512) : A S8x2048x512 :=
  mulf y (mulf (broadcastInDim S8x2048x512 ![] bcast_S_S8x2048x512 (constant S_ .f32 0x3F000000#32))
    (addf (broadcastInDim S8x2048x512 ![] bcast_S_S8x2048x512 (constant S_ .f32 0x3F800000#32))
      (Host.tanh (mulf (broadcastInDim S8x2048x512 ![] bcast_S_S8x2048x512 (constant S_ .f32 0x3F4C422A#32))
        (addf y (mulf (broadcastInDim S8x2048x512 ![] bcast_S_S8x2048x512 (constant S_ .f32 0x3D372713#32))
          (mulf (mulf y y) y)))))))

/-- The gated linear unit's projection. -/
def projArr (y : A S8x2048x512) (wg : A S512x1024) (bg : A S1024) : A S8x2048x1024 :=
  addf (Host.dotGeneral dot_S8x2048x512_S512x1024_S8x2048x1024_2_0_01_1_n_n none (geluArr y) wg)
    (broadcastInDim S8x2048x1024 ![0, 1, 2] bcast_S1x1x1024_S8x2048x1024_0_1_2
      (broadcastInDim S1x1x1024 ![2] bcast_S1024_S1x1x1024_2 bg))

/-- The gated state-space branch. -/
def gatedArr (p : A S8x2048x1024) (za : A S8x2048x512) : A S8x2048x512 :=
  mulf (mulf (extractStridedSlice S8x2048x512 ![0, 0, 0] p slices_S8x2048x1024_S8x2048x512_0_0_0)
      (sigmoid512 (extractStridedSlice S8x2048x512 ![0, 0, 512] p slices_S8x2048x1024_S8x2048x512_0_0_512)))
    (mulf za (sigmoid512 za))

/-- The gated attention branch. -/
def attnArr (attn zb : A S8x2048x512) : A S8x2048x512 := mulf attn (mulf zb (sigmoid512 zb))

/-- The merged branches. -/
def mergedArr (g : A S8x2048x2048) (a b : A S8x2048x512) (ws wa : A S512x1024) : A S8x2048x1024 :=
  addf (mulf (sigmoid1024 (extractStridedSlice S8x2048x1024 ![0, 0, 0] g slices_S8x2048x2048_S8x2048x1024_0_0_0))
      (Host.dotGeneral dot_S8x2048x512_S512x1024_S8x2048x1024_2_0_01_1_n_n none a ws))
    (mulf (sigmoid1024 (extractStridedSlice S8x2048x1024 ![0, 0, 1024] g slices_S8x2048x2048_S8x2048x1024_0_0_1024))
      (Host.dotGeneral dot_S8x2048x512_S512x1024_S8x2048x1024_2_0_01_1_n_n none b wa))

/-- The result. -/
def outArr (x : A S8x2048x1024) (y attn za zb : A S8x2048x512) (g : A S8x2048x2048) (wg : A S512x1024) (bg : A S1024)
    (ws wa : A S512x1024) (wo : A S1024x1024) : A S16384x1024 :=
  shapeCast _ (addf x (Host.dotGeneral dot_S8x2048x1024_S1024x1024_S8x2048x1024_2_0_01_1_n_n none
    (mergedArr g (gatedArr (projArr y wg bg) za) (attnArr attn zb) ws wa) wo)) shapeCasts_S8x2048x1024_S16384x1024

/-- The logistic function on an array of width 512, read at an index. -/
theorem sigmoid512_apply (v : A S8x2048x512) (b : Fin 8) (t : Fin 2048) (j : Fin 512) :
    sigmoid512 v (ix3 b t j) = Ideal.logistic (v (ix3 b t j)) := by
  rw [← logistic_quotient]; unfold sigmoid512; pointwise

/-- The logistic function on an array of width 1024, read at an index. -/
theorem sigmoid1024_apply (v : A S8x2048x1024) (b : Fin 8) (t : Fin 2048) (j : Fin 1024) :
    sigmoid1024 v (ix3 b t j) = Ideal.logistic (v (ix3 b t j)) := by
  rw [← logistic_quotient]; unfold sigmoid1024; pointwise

/-- The GELU of an array, read at an index. -/
theorem geluArr_apply (y : A S8x2048x512) (b : Fin 8) (t : Fin 2048) (j : Fin 512) :
    geluArr y (ix3 b t j) = gelu (y (ix3 b t j)) := by
  unfold geluArr gelu; pointwise

/-- The GLU layer of an array, read at an index. -/
theorem projArr_apply (y : A S8x2048x512) (wg : A S512x1024) (bg : A S1024) (b : Fin 8) (t : Fin 2048) (k : Fin 1024) :
    projArr y wg bg (ix3 b t k)
      = proj (fun j k => wg (ix2 j k)) (fun k => bg (ix1 k)) (fun j => y (ix3 b t j)) k := by
  unfold projArr proj; pointwise [geluArr_apply]

/-- The gated state-space branch, read at an index. -/
theorem gatedArr_apply (p : A S8x2048x1024) (za : A S8x2048x512) (b : Fin 8) (t : Fin 2048) (j : Fin 512) :
    gatedArr p za (ix3 b t j)
      = p (ix3 b t ⟨j, by omega⟩) * Ideal.logistic (p (ix3 b t ⟨512 + j, by omega⟩)) * silu (za (ix3 b t j)) := by
  unfold gatedArr silu; pointwise [sigmoid512_apply]

/-- The gated attention branch, read at an index. -/
theorem attnArr_apply (attn zb : A S8x2048x512) (b : Fin 8) (t : Fin 2048) (j : Fin 512) :
    attnArr attn zb (ix3 b t j) = attn (ix3 b t j) * silu (zb (ix3 b t j)) := by
  unfold attnArr silu; pointwise [sigmoid512_apply]

/-- The merge of the two branches, read at an index. -/
theorem mergedArr_apply (g : A S8x2048x2048) (u v : A S8x2048x512) (ws wa : A S512x1024) (b : Fin 8) (t : Fin 2048)
    (l : Fin 1024) :
    mergedArr g u v ws wa (ix3 b t l)
      = Ideal.logistic (g (ix3 b t ⟨l, by omega⟩)) * (∑ j : Fin 512, u (ix3 b t j) * ws (ix2 j l))
        + Ideal.logistic (g (ix3 b t ⟨1024 + l, by omega⟩)) * (∑ j : Fin 512, v (ix3 b t j) * wa (ix2 j l)) := by
  unfold mergedArr; pointwise [sigmoid1024_apply]

/-- The output projection with the residual, read at an index. -/
theorem outArr_apply (x : A S8x2048x1024) (y attn za zb : A S8x2048x512) (g : A S8x2048x2048) (wg : A S512x1024)
    (bg : A S1024) (ws wa : A S512x1024) (wo : A S1024x1024) (b : Fin 8) (t : Fin 2048) (k : Fin 1024) :
    outArr x y attn za zb g wg bg ws wa wo (ix2 ⟨b * 2048 + t, by omega⟩ k)
      = out (fun j k => wg (ix2 j k)) (fun k => bg (ix1 k)) (fun j k => ws (ix2 j k)) (fun j k => wa (ix2 j k))
          (fun j k => wo (ix2 j k)) (fun k => x (ix3 b t k)) (fun j => y (ix3 b t j)) (fun j => attn (ix3 b t j))
          (fun j => za (ix3 b t j)) (fun j => zb (ix3 b t j)) (fun l => g (ix3 b t l)) k := by
  have h : outArr x y attn za zb g wg bg ws wa wo (ix2 ⟨b * 2048 + t, by omega⟩ k)
      = (addf x (Host.dotGeneral dot_S8x2048x1024_S1024x1024_S8x2048x1024_2_0_01_1_n_n none
          (mergedArr g (gatedArr (projArr y wg bg) za) (attnArr attn zb) ws wa) wo) : A S8x2048x1024) (ix3 b t k) := by
    unfold outArr; pointwise
    first
      | done
      | (congr 2 <;> (try ext) <;> simp <;> omega)
  rw [h]
  unfold out merged gated
  pointwise [mergedArr_apply, gatedArr_apply, attnArr_apply, projArr_apply]

/-- The run's result is `outArr` of the arguments. -/
theorem res_eq (m : (ℓ : Loc nD τ sig) → Buf (Elt Ideal) ℓ) (c : Dev nD) :
    Value.res_main_v51 m c = outArr (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      (m ((c.tc : Thread nD τ).loc main_arg10)) := rfl

end Cert.TailReference

end
-- ==== Proof.TailArray.lean ====
/-
  The result array of the layer's end after the run: each grid point's block is that block of the reference's array, and the
  blocks cover it.
-/
module

public import proofs.«01_k».proof.Proof.TailBlock
public import proofs.«01_k».proof.Proof.TailHost
public import proofs.«01_k».proof.Proof.TailReference

@[expose] public section

set_option maxRecDepth 16384

noncomputable section

namespace Cert.TailArray

open Idealize.ShloMosaic Idealize.SL.Sem Cert.TailIdeal Cert.TailIdeal.Gen Cert.TailRow Cert.TailBlock Cert.TailHost
open Idealize.ShloMosaic.TcCoe
open Idealize.ShloMosaic.Pipeline (Dat)

variable (m : (ℓ : Loc nD τ sig) → Buf (Elt Ideal) ℓ)

/-- The number of a grid point is below 32. -/
theorem point_lt (t : Fin cfg0.N) : t.val < 32 := t.isLt.trans_eq N_0

/-- The blocks' indices: row tile `4 (t % 8) + t / 8`, and the windows' column blocks. -/
theorem index_rows : ∀ t : Fin cfg0.N,
    (win0_0.index t 0 = t.val % 8 * 4 + t.val / 8 ∧ win0_0.index t 1 = 0)
    ∧ (win0_1.index t 0 = 0 ∧ win0_1.index t 1 = t.val / 8 ∧ win0_1.index t 2 = 0)
    ∧ (win0_2.index t 0 = t.val % 8 * 4 + t.val / 8 ∧ win0_2.index t 1 = 4)
    ∧ (win0_3.index t 0 = t.val % 8 * 4 + t.val / 8 ∧ win0_3.index t 1 = 0)
    ∧ (win0_4.index t 0 = t.val % 8 * 4 + t.val / 8 ∧ win0_4.index t 1 = 5)
    ∧ (win0_5.index t 0 = t.val % 8 * 4 + t.val / 8 ∧ win0_5.index t 1 = 0)
    ∧ (win0_11.index t 0 = t.val % 8 * 4 + t.val / 8 ∧ win0_11.index t 1 = 0) :=
  (by decide +kernel : ∀ t : Fin grid0.N, _)

/-- The weights' windows are whole arrays. -/
theorem index_weights : ∀ t : Fin cfg0.N,
    (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0)
    ∧ (win0_10.index t 0 = 0 ∧ win0_10.index t 1 = 0) :=
  (by decide +kernel : ∀ t : Fin grid0.N, _)

/-- Row `r` of point `t`'s tile, as a row of the arrays: token `512 (t / 8) + r` of batch `t % 8`. -/
def tok (t : Fin cfg0.N) (r : Fin 512) : Fin 2048 := ⟨t.val / 8 * 512 + r.val, by have := point_lt t; omega⟩

/-- The batch of point `t`. -/
def bat (t : Fin cfg0.N) : Fin 8 := ⟨t.val % 8, Nat.mod_lt _ (by decide)⟩

/-- The row of the arrays that row `r` of point `t`'s tile is. -/
def row (t : Fin cfg0.N) (r : Fin 512) : Fin 16384 :=
  ⟨bat t * 2048 + tok t r, by have := (bat t).isLt; have := (tok t r).isLt; omega⟩

/-! ## The input blocks, read at an index -/

/-- The residual input's block at a grid point, read at an index. -/
theorem iblk0 (c : Dev nD) (t : Fin cfg0.N) (r : Fin 512) (k : Fin 1024) :
    (iblk m c 0 t : Vec Ideal S512x1024 .f32) (ix2 r k)
      = (V m c main_v35 : FVec Ideal S16384x1024 .f32) (ix2 (row t r) k) := by
  obtain ⟨⟨e0, e1⟩, -⟩ := index_rows t
  refine congrArg (V m c main_v35 : FVec Ideal S16384x1024 .f32) (funext fun a => Fin.ext ?_)
  fin_cases a
  · show win0_0.index t 0 * 512 + 1 * r.val = t.val % 8 * 2048 + (t.val / 8 * 512 + r.val)
    rw [e0]; omega
  · show win0_0.index t 1 * 1024 + 1 * k.val = k.val
    rw [e1]; omega

/-- The joined gate array's block at a grid point, read at an index. -/
theorem x5_apply (c : Dev nD) (t : Fin cfg0.N) (r : Fin 512) (l : Fin 2048) :
    (X0_5 m c t : Vec Ideal S512x2048 .bf16) (ix2 r l)
      = (V m c main_v34 : FVec Ideal S16384x3072 .bf16) (ix2 (row t r) ⟨l, by omega⟩) := by
  obtain ⟨-, -, -, -, -, ⟨e0, e1⟩, -⟩ := index_rows t
  unfold X0_5 Pipeline.Window.fill
  rw [dif_pos (moved0_5 t _)]
  refine congrArg (V m c main_v34 : FVec Ideal S16384x3072 .bf16) (funext fun a => Fin.ext ?_)
  fin_cases a
  · show win0_5.index t 0 * 512 + 1 * r.val = t.val % 8 * 2048 + (t.val / 8 * 512 + r.val)
    rw [e0]; omega
  · show win0_5.index t 1 * 2048 + 1 * l.val = l.val
    rw [e1]; omega

/-- The block of the state-space side gate, read at an index. -/
theorem iblk2 (c : Dev nD) (t : Fin cfg0.N) (r : Fin 512) (k : Fin 512) :
    (iblk m c 2 t : Vec Ideal S512x512 .bf16) (ix2 r k)
      = (V m c main_v34 : FVec Ideal S16384x3072 .bf16) (ix2 (row t r) ⟨2048 + k, by omega⟩) := by
  obtain ⟨-, -, ⟨e0, e1⟩, -⟩ := index_rows t
  refine congrArg (V m c main_v34 : FVec Ideal S16384x3072 .bf16) (funext fun a => Fin.ext ?_)
  fin_cases a
  · show win0_2.index t 0 * 512 + 1 * r.val = t.val % 8 * 2048 + (t.val / 8 * 512 + r.val)
    rw [e0]; omega
  · show win0_2.index t 1 * 512 + 1 * k.val = 2048 + k.val
    rw [e1]; omega

/-- The block of the attention output, read at an index. -/
theorem iblk3 (c : Dev nD) (t : Fin cfg0.N) (r : Fin 512) (k : Fin 512) :
    (iblk m c 3 t : Vec Ideal S512x512 .bf16) (ix2 r k)
      = (V m c main_v37 : FVec Ideal S16384x512 .bf16) (ix2 (row t r) k) := by
  obtain ⟨-, -, -, ⟨e0, e1⟩, -⟩ := index_rows t
  refine congrArg (V m c main_v37 : FVec Ideal S16384x512 .bf16) (funext fun a => Fin.ext ?_)
  fin_cases a
  · show win0_3.index t 0 * 512 + 1 * r.val = t.val % 8 * 2048 + (t.val / 8 * 512 + r.val)
    rw [e0]; omega
  · show win0_3.index t 1 * 512 + 1 * k.val = k.val
    rw [e1]; omega

/-- The block of the attention side gate, read at an index. -/
theorem iblk4 (c : Dev nD) (t : Fin cfg0.N) (r : Fin 512) (k : Fin 512) :
    (iblk m c 4 t : Vec Ideal S512x512 .bf16) (ix2 r k)
      = (V m c main_v34 : FVec Ideal S16384x3072 .bf16) (ix2 (row t r) ⟨2560 + k, by omega⟩) := by
  obtain ⟨-, -, -, -, ⟨e0, e1⟩, -⟩ := index_rows t
  refine congrArg (V m c main_v34 : FVec Ideal S16384x3072 .bf16) (funext fun a => Fin.ext ?_)
  fin_cases a
  · show win0_4.index t 0 * 512 + 1 * r.val = t.val % 8 * 2048 + (t.val / 8 * 512 + r.val)
    rw [e0]; omega
  · show win0_4.index t 1 * 512 + 1 * k.val = 2560 + k.val
    rw [e1]; omega

/-- The block of the GLU weight is the whole array. -/
theorem iblk6 (c : Dev nD) (t : Fin cfg0.N) (r : Fin 512) (k : Fin 1024) :
    (iblk m c 6 t : Vec Ideal S512x1024 .bf16) (ix2 r k)
      = (V m c main_v38 : FVec Ideal S512x1024 .bf16) (ix2 r k) := by
  obtain ⟨⟨e0, e1⟩, -⟩ := index_weights t
  refine congrArg (V m c main_v38 : FVec Ideal S512x1024 .bf16) (funext fun a => Fin.ext ?_)
  fin_cases a
  · show win0_6.index t 0 * 512 + 1 * r.val = r.val
    rw [e0]; omega
  · show win0_6.index t 1 * 1024 + 1 * k.val = k.val
    rw [e1]; omega

/-- The block of the GLU bias is the whole array. -/
theorem iblk7 (c : Dev nD) (t : Fin cfg0.N) (r : Fin 1) (k : Fin 1024) :
    (iblk m c 7 t : Vec Ideal S1x1024 .f32) (ix2 r k)
      = (V m c main_v39 : FVec Ideal S1x1024 .f32) (ix2 r k) := by
  obtain ⟨-, ⟨e0, e1⟩, -⟩ := index_weights t
  refine congrArg (V m c main_v39 : FVec Ideal S1x1024 .f32) (funext fun a => Fin.ext ?_)
  fin_cases a
  · show win0_7.index t 0 * 1 + 1 * r.val = r.val
    rw [e0]; omega
  · show win0_7.index t 1 * 1024 + 1 * k.val = k.val
    rw [e1]; omega

/-- The block of the state-space projection is the whole array. -/
theorem iblk8 (c : Dev nD) (t : Fin cfg0.N) (r : Fin 512) (k : Fin 1024) :
    (iblk m c 8 t : Vec Ideal S512x1024 .bf16) (ix2 r k)
      = (V m c main_v40 : FVec Ideal S512x1024 .bf16) (ix2 r k) := by
  obtain ⟨-, -, ⟨e0, e1⟩, -⟩ := index_weights t
  refine congrArg (V m c main_v40 : FVec Ideal S512x1024 .bf16) (funext fun a => Fin.ext ?_)
  fin_cases a
  · show win0_8.index t 0 * 512 + 1 * r.val = r.val
    rw [e0]; omega
  · show win0_8.index t 1 * 1024 + 1 * k.val = k.val
    rw [e1]; omega

/-- The block of the attention projection is the whole array. -/
theorem iblk9 (c : Dev nD) (t : Fin cfg0.N) (r : Fin 512) (k : Fin 1024) :
    (iblk m c 9 t : Vec Ideal S512x1024 .bf16) (ix2 r k)
      = (V m c main_v41 : FVec Ideal S512x1024 .bf16) (ix2 r k) := by
  obtain ⟨-, -, -, ⟨e0, e1⟩, -⟩ := index_weights t
  refine congrArg (V m c main_v41 : FVec Ideal S512x1024 .bf16) (funext fun a => Fin.ext ?_)
  fin_cases a
  · show win0_9.index t 0 * 512 + 1 * r.val = r.val
    rw [e0]; omega
  · show win0_9.index t 1 * 1024 + 1 * k.val = k.val
    rw [e1]; omega

/-- The block of the output projection is the whole array. -/
theorem iblk10 (c : Dev nD) (t : Fin cfg0.N) (r : Fin 1024) (k : Fin 1024) :
    (iblk m c 10 t : Vec Ideal S1024x1024 .bf16) (ix2 r k)
      = (V m c main_v42 : FVec Ideal S1024x1024 .bf16) (ix2 r k) := by
  obtain ⟨-, -, -, -, ⟨e0, e1⟩⟩ := index_weights t
  refine congrArg (V m c main_v42 : FVec Ideal S1024x1024 .bf16) (funext fun a => Fin.ext ?_)
  fin_cases a
  · show win0_10.index t 0 * 1024 + 1 * r.val = r.val
    rw [e0]; omega
  · show win0_10.index t 1 * 1024 + 1 * k.val = k.val
    rw [e1]; omega

/-- The block of the scan's rotated output, read at an index. -/
theorem iblk1 (c : Dev nD) (t : Fin cfg0.N) (n : Fin 4) (r : Fin 4096) (l : Fin 128) :
    (iblk m c 1 t : Vec Ideal S4x4096x128 .f32) (ix3 n r l)
      = (V m c main_v27 : FVec Ideal S4x16384x128 .f32)
          (ix3 n ⟨t.val / 8 * 4096 + r.val, by have := point_lt t; omega⟩ l) := by
  obtain ⟨-, ⟨e0, e1, e2⟩, -⟩ := index_rows t
  refine congrArg (V m c main_v27 : FVec Ideal S4x16384x128 .f32) (funext fun a => Fin.ext ?_)
  fin_cases a
  · show win0_1.index t 0 * 4 + 1 * n.val = n.val
    rw [e0]; omega
  · show win0_1.index t 1 * 4096 + 1 * r.val = t.val / 8 * 4096 + r.val
    rw [e1]; omega
  · show win0_1.index t 2 * 128 + 1 * l.val = l.val
    rw [e2]; omega

/-! ## The blocks' rows as rows of the arguments -/

/-- A row of the state-space block, turned back, is the argument's. -/
theorem ssm_row (c : Dev nD) (t : Fin cfg0.N) (r : Fin 512) (n : Fin 4) (l : Fin 128) :
    (iblk m c 1 t : Vec Ideal S4x4096x128 .f32) (ix3 n ⟨t.val % 8 + 8 * r.val, by omega⟩
        ⟨(l.val + 32 * (r.val % 4)) % 128, Nat.mod_lt _ (by decide)⟩)
      = (m ((c : Thread nD τ).loc main_arg1) : FVec Ideal S8x2048x512 .f32)
          (ix3 (bat t) (tok t r) ⟨128 * n.val + l.val, by omega⟩) := by
  have ht := point_lt t
  have hr := r.isLt
  rw [iblk1, V_v27]
  have h := (tokenMajor_apply (m ((c : Thread nD τ).loc main_arg1)) (bat t)
      ⟨(t.val / 8 * 512 + r.val) / 4, by omega⟩ ⟨r.val % 4, by omega⟩ n
      ⟨(l.val + 32 * (r.val % 4)) % 128, Nat.mod_lt _ (by decide)⟩).trans (turned_apply _ _ _ _ _ _ _)
  refine Eq.trans (congrArg (fun R => tokenMajor (m ((c : Thread nD τ).loc main_arg1)) (ix3 n R _)) (Fin.ext ?_)) (h.trans ?_)
  · show t.val / 8 * 4096 + (t.val % 8 + 8 * r.val) = ((t.val / 8 * 512 + r.val) / 4 * 4 + r.val % 4) * 8 + t.val % 8
    omega
  · have key : ∀ (a a' : Fin 2048) (j j' : Fin 512), a = a' → j = j' →
        (m ((c : Thread nD τ).loc main_arg1) : FVec Ideal S8x2048x512 .f32) (ix3 (bat t) a j)
          = (m ((c : Thread nD τ).loc main_arg1) : FVec Ideal S8x2048x512 .f32) (ix3 (bat t) a' j') := by
      rintro _ _ _ _ rfl rfl; rfl
    refine key _ _ _ _ (Fin.ext ?_) (Fin.ext ?_)
    · show 4 * ((t.val / 8 * 512 + r.val) / 4) + r.val % 4 = t.val / 8 * 512 + r.val
      omega
    · show 128 * n.val + ((l.val + 32 * (r.val % 4)) % 128 + 128 - 32 * (r.val % 4)) % 128 = 128 * n.val + l.val
      have := l.isLt
      omega

/-- The argument's row that point `t`'s row `r` reads. -/
def ssm (c : Dev nD) (t : Fin cfg0.N) (r : Fin 512) (j : Fin 512) : EReal :=
  (m ((c : Thread nD τ).loc main_arg1) : FVec Ideal S8x2048x512 .f32) (ix3 (bat t) (tok t r) j)

/-- The reference's array of the arguments. -/
def result (c : Dev nD) : FVec Ideal S16384x1024 .f32 :=
  TailReference.outArr (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))

/-- What point `t` leaves at row `r`, column `k` of its block is the reference's array at that row and column. -/
theorem out_row (c : Dev nD) (t : Fin cfg0.N) (r : Fin 512) (k : Fin 1024) :
    outsAt0 m c t (ix2 r k) = result m c (ix2 (row t r) k) := by
  rw [outsAt_eq, block_apply t _ _ _ _ _ _ _ _ _ _ _ r (ssm m c t r) (ssm_row m c t r) k]
  unfold result
  refine Eq.trans ?_ (TailReference.outArr_apply _ _ _ _ _ _ _ _ _ _ _ (bat t) (tok t r) k).symm
  have w6 : ∀ j k, (iblk m c 6 t : Vec Ideal S512x1024 .bf16) (ix2 j k)
      = (m ((c : Thread nD τ).loc main_arg6) : FVec Ideal S512x1024 .f32) (ix2 j k) := fun j k => by
    rw [iblk6, V_v38]; pointwise
  have w8 : ∀ j k, (iblk m c 8 t : Vec Ideal S512x1024 .bf16) (ix2 j k)
      = (m ((c : Thread nD τ).loc main_arg8) : FVec Ideal S512x1024 .f32) (ix2 j k) := fun j k => by
    rw [iblk8, V_v40]; pointwise
  have w9 : ∀ j k, (iblk m c 9 t : Vec Ideal S512x1024 .bf16) (ix2 j k)
      = (m ((c : Thread nD τ).loc main_arg9) : FVec Ideal S512x1024 .f32) (ix2 j k) := fun j k => by
    rw [iblk9, V_v41]; pointwise
  have w10 : ∀ j k, (iblk m c 10 t : Vec Ideal S1024x1024 .bf16) (ix2 j k)
      = (m ((c : Thread nD τ).loc main_arg10) : FVec Ideal S1024x1024 .f32) (ix2 j k) := fun j k => by
    rw [iblk10, V_v42]; pointwise
  have w7 : ∀ k, (iblk m c 7 t : Vec Ideal S1x1024 .f32) (ix2 0 k)
      = (m ((c : Thread nD τ).loc main_arg7) : FVec Ideal S1024 .f32) (ix1 k) := fun k => by
    rw [iblk7, V_v39]; pointwise
  have a0 : ∀ k, (iblk m c 0 t : Vec Ideal S512x1024 .f32) (ix2 r k)
      = (m ((c : Thread nD τ).loc main_arg0) : FVec Ideal S8x2048x1024 .f32) (ix3 (bat t) (tok t r) k) := fun k => by
    rw [iblk0, V_v35]; exact flat_apply _ _ _ _
  have a3 : ∀ j, (iblk m c 3 t : Vec Ideal S512x512 .bf16) (ix2 r j)
      = (m ((c : Thread nD τ).loc main_arg2) : FVec Ideal S8x2048x512 .f32) (ix3 (bat t) (tok t r) j) := fun j => by
    rw [iblk3, V_v37]; exact flat512_apply _ _ _ _
  have a2 : ∀ j, (iblk m c 2 t : Vec Ideal S512x512 .bf16) (ix2 r j)
      = (m ((c : Thread nD τ).loc main_arg3) : FVec Ideal S8x2048x512 .f32) (ix3 (bat t) (tok t r) j) := fun j => by
    rw [iblk2, V_v34]; exact side_ssm _ _ _ _ _ _
  have a4 : ∀ j, (iblk m c 4 t : Vec Ideal S512x512 .bf16) (ix2 r j)
      = (m ((c : Thread nD τ).loc main_arg4) : FVec Ideal S8x2048x512 .f32) (ix3 (bat t) (tok t r) j) := fun j => by
    rw [iblk4, V_v34]; exact side_attn _ _ _ _ _ _
  have a5 : ∀ l, (X0_5 m c t : Vec Ideal S512x2048 .bf16) (ix2 r l)
      = (m ((c : Thread nD τ).loc main_arg5) : FVec Ideal S8x2048x2048 .f32) (ix3 (bat t) (tok t r) l) := fun l => by
    rw [x5_apply, V_v34]; exact side_gate _ _ _ _ _ _
  simp only [w6, w7, w8, w9, w10, a0, a2, a3, a4, a5]
  rfl

/-! ## The array -/

/-- What point `t` writes back is its block of the reference's array. -/
theorem flushed_eq (c : Dev nD) (t : Fin cfg0.N) :
    (dats m 0 c).flushed 11 t = ((cfg0.win 11).blk t).view.read (Elt Ideal) (result m c) := by
  show (cfg0.win 11).cut (grid0.coords t) ((dats m 0 c).after 11 t) = _
  rw [after0_11]
  obtain ⟨-, -, -, -, -, -, ⟨e0, e1⟩⟩ := index_rows t
  funext x
  have hx : x = ix2 (x 0 : Fin 512) (x 1 : Fin 1024) := funext fun a => by fin_cases a <;> rfl
  rw [hx]
  refine (out_row m c t (x 0) (x 1)).trans ?_
  refine congrArg (result m c) (funext fun a => Fin.ext ?_)
  fin_cases a
  · show t.val % 8 * 2048 + (t.val / 8 * 512 + (x 0).val) = win0_11.index t 0 * 512 + 1 * (x 0).val
    rw [e0]; omega
  · show (x 1).val = win0_11.index t 1 * 1024 + 1 * (x 1).val
    rw [e1]; omega

/-- The result's blocks: offsets and extents. -/
theorem block_11 : ∀ t : Fin cfg0.N, win0_11.index t 0 * win0_11.size 0 = (t.val % 8 * 4 + t.val / 8) * 512
    ∧ win0_11.xsize (grid0.coords t) 0 = 512 ∧ win0_11.index t 1 * win0_11.size 1 = 0
    ∧ win0_11.xsize (grid0.coords t) 1 = 1024 :=
  (by decide +kernel : ∀ t : Fin grid0.N, _)

/-- An index of the result array is in point `t`'s block when its row is in the point's tile. -/
theorem mem_blk (t : Fin cfg0.N) (i : S16384x1024.Idx)
    (h : (t.val % 8 * 4 + t.val / 8) * 512 ≤ (i 0 : Nat) ∧ (i 0 : Nat) < (t.val % 8 * 4 + t.val / 8) * 512 + 512) :
    i ∈ ((cfg0.win 11).blk t).view.set := by
  obtain ⟨e0, x0, e1, x1⟩ := block_11 t
  show i ∈ ((View.whole main_v43).slice (win0_11.rect t)).set
  rw [View.set_slice_whole, Rect.mem_set_unit]
  have h1 : (i 1 : Nat) < 1024 := (i 1).isLt
  intro a
  match a with
  | ⟨0, _⟩ => show win0_11.index t 0 * win0_11.size 0 ≤ (i 0 : Nat)
                  ∧ (i 0 : Nat) < win0_11.index t 0 * win0_11.size 0 + win0_11.xsize (grid0.coords t) 0
              rw [e0, x0]; exact h
  | ⟨1, _⟩ => show win0_11.index t 1 * win0_11.size 1 ≤ (i 1 : Nat)
                  ∧ (i 1 : Nat) < win0_11.index t 1 * win0_11.size 1 + win0_11.xsize (grid0.coords t) 1
              rw [e1, x1]; omega

/-- The tile of row `R`: of the point `(R / 512 % 4) * 8 + R / 2048`. -/
theorem tile_of (R : Nat) (hR : R < 16384) : (R / 512 % 4 * 8 + R / 2048) % 8 * 4 + (R / 512 % 4 * 8 + R / 2048) / 8 = R / 512 := by
  have h : R / 2048 = R / 512 / 4 := by omega
  have hq : R / 512 < 32 := by omega
  rw [h]
  generalize R / 512 = q at hq ⊢
  omega

/-- The points' blocks cover the result array. -/
theorem cover (i : S16384x1024.Idx) :
    ∃ t : Fin cfg0.N, (cfg0.win 11).flush t = true ∧ i ∈ ((cfg0.win 11).blk t).view.set := by
  have h0 : (i 0 : Nat) < 16384 := (i 0).isLt
  have hN : cfg0.N = 32 := N_0
  have e := tile_of (i 0 : Nat) h0
  refine ⟨⟨(i 0 : Nat) / 512 % 4 * 8 + (i 0 : Nat) / 2048, by omega⟩, flush0_11 _, mem_blk _ i ?_⟩
  show (((i 0 : Nat) / 512 % 4 * 8 + (i 0 : Nat) / 2048) % 8 * 4 + ((i 0 : Nat) / 512 % 4 * 8 + (i 0 : Nat) / 2048) / 8) * 512 ≤ _ ∧ _
  rw [e]
  omega

/-- The result array ends holding the reference's. -/
theorem final (c : Dev nD) : (dats m 0 c).arrAt 11 cfg0.N = result m c :=
  (dats m 0 c).arrAt_eq_of_cover 11 (result m c) (fun t _ => flushed_eq m c t) cover

end Cert.TailArray

end
-- ==== Proof.InWeights.lean ====
/-
  The first grid point's filling of the weight buffer: the weight matrix is copied in, 256 columns at a time, through three
  staging slots, and each slot is narrowed into the buffer.
-/
module

public import proofs.«01_k».proof.Proof.Gen.InProjIdeal.Frame
public import proofs.«01_k».proof.Proof.Gen.InProjIdeal.Skeleton
public import Idealize.ShloMosaic.Lib.Pipeline.Frame
public import Idealize.ShloMosaic.Lib.Tactic
public import Idealize.ShloMosaic.Lib.Transfers
public import Idealize.ShloMosaic.Lib.ViewIndex
public import Idealize.ShloMosaic.Lib.ValueLayout
public import Idealize.ShloMosaic.Lib.Pointwise
public import Idealize.ShloMosaic.Lib.Ring

@[expose] public section

set_option maxRecDepth 16384

noncomputable section

namespace Cert.Proof.InProj

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

/-- The weight matrix, left in HBM. -/
abbrev wHbm : Memref sig .tc .hbm S1x1024x6144 .f32 := Memref.whole main_arg2
/-- The weight buffer. -/
abbrev wVmem : Memref sig .tc .vmem S1024x6144 .bf16 := Memref.whole cc0_scratch0
/-- The three staging slots. -/
abbrev wStage : Memref sig .tc .vmem S3x1024x256 .f32 := Memref.whole cc0_scratch1
/-- A whole memref held at contents `f`. -/
abbrev heldAt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The three counters of the copies, at zero. -/
abbrev cellsZero (c : Dev nD) : sProp 𝕄 :=
  iprop(semVal ((c : Thread nD τ), SemLoc.dma 18) 0 ∗ semVal ((c : Thread nD τ), SemLoc.dma 19) 0 ∗ semVal ((c : Thread nD τ), SemLoc.dma 20) 0)

/-- The filling, as the body's conditional spells it. -/
def fill (i : grid0.Coords) (arg1 : Memref sig .tc .vmem S512x1024 .f32) (harg1 : arg1.IsWhole) (arg2 : Memref sig .tc .vmem S1x1024 .f32) (harg2 : arg2.IsWhole) (arg4 : Memref sig .tc .vmem S1x2048 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S1x2048 .f32) (harg8 : arg8.IsWhole) (arg9 : Memref sig .tc .vmem S256x256 .bf16) (harg9 : arg9.IsWhole) (arg10 : Memref sig .tc .vmem S512x2560 .f32) (harg10 : arg10.IsWhole) (arg11 : Memref sig .tc .vmem S512x3072 .bf16) (harg11 : arg11.IsWhole) (arg12 : Memref sig .tc .vmem S4x4096x128 .f32) (harg12 : arg12.IsWhole) :
    Prog (TpuEff nD τ sig (Elt F) Λ₀ .tc) PUnit := do
    let v917 : Vec F S1x1024x256 .f32 ← k0_part1 i arg1 harg1 arg2 harg2 wHbm (Memref.isWhole_whole _) arg4 harg4 arg5 harg5 arg6 harg6 arg7 harg7 arg8 harg8 arg9 harg9 arg10 harg10 arg11 harg11 arg12 harg12 wVmem (Memref.isWhole_whole _) wStage (Memref.isWhole_whole _) cc0_scratch2
    k0_part2 i arg1 harg1 arg2 harg2 wHbm (Memref.isWhole_whole _) arg4 harg4 arg5 harg5 arg6 harg6 arg7 harg7 arg8 harg8 arg9 harg9 arg10 harg10 arg11 harg11 arg12 harg12 wVmem (Memref.isWhole_whole _) wStage (Memref.isWhole_whole _) cc0_scratch2 v917
    let v971 : Vec F S1x1024x256 .f32 ← k0_part3 i arg1 harg1 arg2 harg2 wHbm (Memref.isWhole_whole _) arg4 harg4 arg5 harg5 arg6 harg6 arg7 harg7 arg8 harg8 arg9 harg9 arg10 harg10 arg11 harg11 arg12 harg12 wVmem (Memref.isWhole_whole _) wStage (Memref.isWhole_whole _) cc0_scratch2
    k0_part4 i arg1 harg1 arg2 harg2 wHbm (Memref.isWhole_whole _) arg4 harg4 arg5 harg5 arg6 harg6 arg7 harg7 arg8 harg8 arg9 harg9 arg10 harg10 arg11 harg11 arg12 harg12 wVmem (Memref.isWhole_whole _) wStage (Memref.isWhole_whole _) cc0_scratch2 v971
    let v1025 : Vec F S1x1024x256 .f32 ← k0_part5 i arg1 harg1 arg2 harg2 wHbm (Memref.isWhole_whole _) arg4 harg4 arg5 harg5 arg6 harg6 arg7 harg7 arg8 harg8 arg9 harg9 arg10 harg10 arg11 harg11 arg12 harg12 wVmem (Memref.isWhole_whole _) wStage (Memref.isWhole_whole _) cc0_scratch2
    k0_part6 i arg1 harg1 arg2 harg2 wHbm (Memref.isWhole_whole _) arg4 harg4 arg5 harg5 arg6 harg6 arg7 harg7 arg8 harg8 arg9 harg9 arg10 harg10 arg11 harg11 arg12 harg12 wVmem (Memref.isWhole_whole _) wStage (Memref.isWhole_whole _) cc0_scratch2 v1025
    let v1079 : Vec F S1x1024x256 .f32 ← k0_part7 i arg1 harg1 arg2 harg2 wHbm (Memref.isWhole_whole _) arg4 harg4 arg5 harg5 arg6 harg6 arg7 harg7 arg8 harg8 arg9 harg9 arg10 harg10 arg11 harg11 arg12 harg12 wVmem (Memref.isWhole_whole _) wStage (Memref.isWhole_whole _) cc0_scratch2
    k0_part8 i arg1 harg1 arg2 harg2 wHbm (Memref.isWhole_whole _) arg4 harg4 arg5 harg5 arg6 harg6 arg7 harg7 arg8 harg8 arg9 harg9 arg10 harg10 arg11 harg11 arg12 harg12 wVmem (Memref.isWhole_whole _) wStage (Memref.isWhole_whole _) cc0_scratch2 v1079
    let v1133 : Vec F S1x1024x256 .f32 ← k0_part9 i arg1 harg1 arg2 harg2 wHbm (Memref.isWhole_whole _) arg4 harg4 arg5 harg5 arg6 harg6 arg7 harg7 arg8 harg8 arg9 harg9 arg10 harg10 arg11 harg11 arg12 harg12 wVmem (Memref.isWhole_whole _) wStage (Memref.isWhole_whole _) cc0_scratch2
    k0_part10 i arg1 harg1 arg2 harg2 wHbm (Memref.isWhole_whole _) arg4 harg4 arg5 harg5 arg6 harg6 arg7 harg7 arg8 harg8 arg9 harg9 arg10 harg10 arg11 harg11 arg12 harg12 wVmem (Memref.isWhole_whole _) wStage (Memref.isWhole_whole _) cc0_scratch2 v1133
    let v1187 : Vec F S1x1024x256 .f32 ← k0_part11 i arg1 harg1 arg2 harg2 wHbm (Memref.isWhole_whole _) arg4 harg4 arg5 harg5 arg6 harg6 arg7 harg7 arg8 harg8 arg9 harg9 arg10 harg10 arg11 harg11 arg12 harg12 wVmem (Memref.isWhole_whole _) wStage (Memref.isWhole_whole _) cc0_scratch2
    k0_part12 i arg1 harg1 arg2 harg2 wHbm (Memref.isWhole_whole _) arg4 harg4 arg5 harg5 arg6 harg6 arg7 harg7 arg8 harg8 arg9 harg9 arg10 harg10 arg11 harg11 arg12 harg12 wVmem (Memref.isWhole_whole _) wStage (Memref.isWhole_whole _) cc0_scratch2 v1187
    let v1241 : Vec F S1x1024x256 .f32 ← k0_part13 i arg1 harg1 arg2 harg2 wHbm (Memref.isWhole_whole _) arg4 harg4 arg5 harg5 arg6 harg6 arg7 harg7 arg8 harg8 arg9 harg9 arg10 harg10 arg11 harg11 arg12 harg12 wVmem (Memref.isWhole_whole _) wStage (Memref.isWhole_whole _) cc0_scratch2
    k0_part14 i arg1 harg1 arg2 harg2 wHbm (Memref.isWhole_whole _) arg4 harg4 arg5 harg5 arg6 harg6 arg7 harg7 arg8 harg8 arg9 harg9 arg10 harg10 arg11 harg11 arg12 harg12 wVmem (Memref.isWhole_whole _) wStage (Memref.isWhole_whole _) cc0_scratch2 v1241
    let v1295 : Vec F S1x1024x256 .f32 ← k0_part15 i arg1 harg1 arg2 harg2 wHbm (Memref.isWhole_whole _) arg4 harg4 arg5 harg5 arg6 harg6 arg7 harg7 arg8 harg8 arg9 harg9 arg10 harg10 arg11 harg11 arg12 harg12 wVmem (Memref.isWhole_whole _) wStage (Memref.isWhole_whole _) cc0_scratch2
    k0_part16 i arg1 harg1 arg2 harg2 wHbm (Memref.isWhole_whole _) arg4 harg4 arg5 harg5 arg6 harg6 arg7 harg7 arg8 harg8 arg9 harg9 arg10 harg10 arg11 harg11 arg12 harg12 wVmem (Memref.isWhole_whole _) wStage (Memref.isWhole_whole _) cc0_scratch2 v1295
    pure ⟨⟩

set_option maxHeartbeats 8000000 in
/-- The filling's run, from any contents of the buffer and of the slots. -/
@[irreducible] def fillRun (i : grid0.Coords) (c : Dev nD) (arg1 : Memref sig .tc .vmem S512x1024 .f32) (harg1 : arg1.IsWhole) (arg2 : Memref sig .tc .vmem S1x1024 .f32) (harg2 : arg2.IsWhole) (arg4 : Memref sig .tc .vmem S1x2048 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S1x2048 .f32) (harg8 : arg8.IsWhole) (arg9 : Memref sig .tc .vmem S256x256 .bf16) (harg9 : arg9.IsWhole) (arg10 : Memref sig .tc .vmem S512x2560 .f32) (harg10 : arg10.IsWhole) (arg11 : Memref sig .tc .vmem S512x3072 .bf16) (harg11 : arg11.IsWhole) (arg12 : Memref sig .tc .vmem S4x4096x128 .f32) (harg12 : arg12.IsWhole)
    (fh : Buf (Elt F) (wHbm.view.loc (c : Thread nD τ))) (f13 : Buf (Elt F) (wVmem.view.loc (c : Thread nD τ))) (f14 : Buf (Elt F) (wStage.view.loc (c : Thread nD τ))) :
    { g : Buf (Elt F) (wVmem.view.loc (c : Thread nD τ)) //
      ∀ (W : Waits sig Unit),
      iprop(heldAt c wVmem f13 ∗ heldAt c wStage f14 ∗ cellsZero (F := F) c ∗ heldAt c wHbm fh ∗ owes (c : Thread nD τ) 0 W)
      ⊢ wp frame (wpE (defs₀ (F := F)) Variants.none c none) Set.univ (fill (F := F) i arg1 harg1 arg2 harg2 arg4 harg4 arg5 harg5 arg6 harg6 arg7 harg7 arg8 harg8 arg9 harg9 arg10 harg10 arg11 harg11 arg12 harg12)
          (fun _ => iprop(heldAt c wVmem g ∗ (∃ f, heldAt (F := F) c wStage f) ∗ cellsZero (F := F) c ∗ heldAt c wHbm fh ∗ ∃ W', owes (c : Thread nD τ) 0 W')) } := by
  refine ⟨?_, fun W => ?run⟩
  case run =>
    unfold fill
    iintro ⟨H13, H14, ⟨Hq0, Hq1, Hq2⟩, Hh, HO⟩
    set_option sl_exec.dmaWindow true in
    set_option sl_exec.dmaWindowLent true in
    sl_exec
    sl_step
    isplitl [H13]; · iexact H13
    isplitl [H14]; · iexists _; iexact H14
    isplitl [Hq0 Hq1 Hq2]
    · isplitl [Hq0]; · iexact Hq0
      isplitl [Hq1]; · iexact Hq1
      iexact Hq2
    isplitl [Hh]; · iexact Hh
    iexists _; iexact HO

end Cert.Proof.InProj

end
-- ==== Proof.InRest.lean ====
/-
  The body after the weight buffer is filled: the block of tokens is normalised and projected.
-/
module

public import proofs.«01_k».proof.Proof.Gen.InProjIdeal.Frame
public import proofs.«01_k».proof.Proof.Gen.InProjIdeal.Skeleton
public import proofs.«01_k».proof.Proof.InWeights
public import Idealize.ShloMosaic.Lib.Tactic
public import Idealize.ShloMosaic.Lib.Transfers
public import Idealize.ShloMosaic.Lib.ViewIndex
public import Idealize.ShloMosaic.Lib.ValueLayout
public import Idealize.ShloMosaic.Lib.Pointwise
public import Idealize.ShloMosaic.Lib.Ring

@[expose] public section

set_option maxRecDepth 16384

noncomputable section

namespace Cert.Proof.InProj

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

/-- The body after its conditional. -/
def rest (i : grid0.Coords) (arg1 : Memref sig .tc .vmem S512x1024 .f32) (harg1 : arg1.IsWhole) (arg2 : Memref sig .tc .vmem S1x1024 .f32) (harg2 : arg2.IsWhole) (arg4 : Memref sig .tc .vmem S1x2048 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S1x2048 .f32) (harg8 : arg8.IsWhole) (arg9 : Memref sig .tc .vmem S256x256 .bf16) (harg9 : arg9.IsWhole) (arg10 : Memref sig .tc .vmem S512x2560 .f32) (harg10 : arg10.IsWhole) (arg11 : Memref sig .tc .vmem S512x3072 .bf16) (harg11 : arg11.IsWhole) (arg12 : Memref sig .tc .vmem S4x4096x128 .f32) (harg12 : arg12.IsWhole) :
    Prog (TpuEff nD τ sig (Elt F) Λ₀ .tc) PUnit := do
  let arg0 : BitVec 32 := BitVec.ofNat 32 (i 0).val
  let v0 : BitVec 1 := Scalar.cmpi .eq 8#32 0#32
  let v1 : BitVec 32 := Scalar.select v0 1#32 8#32
  let v2 : BitVec 32 := Scalar.remsi arg0 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  let v9 : BitVec 32 := Scalar.select v7 v8 v2
  let v13 : Vec F S512x1024 .f32 ← Prog.lift (.load arg1 (Rect.unit (s := S512x1024) ![0, 0] S512x1024.size inb_S512x1024_S512x1024_0_0).toLoadRect (View.loadsAt_vmem h_S512x1024))
  let v25 : Vec F S1x1024 .f32 ← Prog.lift (.load arg2 (Rect.unit (s := S1x1024) ![0, 0] S1x1024.size inb_S1x1024_S1x1024_0_0).toLoadRect (View.loadsAt_vmem h_S1x1024))
  let v30 : Vec F S256x256 .bf16 ← Prog.lift (.load arg9 (Rect.unit (s := S256x256) ![0, 0] S256x256.size inb_S256x256_S256x256_0_0).toLoadRect (View.loadsAt_vmem h_S256x256))
  let v32 : Vec F S1024x512 .bf16 ← Prog.lift (.load wVmem (Rect.unit (s := S1024x6144) ![0, 0] S1024x512.size inb_S1024x6144_S1024x512_0_0).toLoadRect (View.loadsAt_vmem h_S1024x512))
  have v35 : IVec S512x128 32 := iota .tc S512x128 32 [0] iota_S512x128_d0_w32
  have v29 : FVec F S512x1024 .bf16 := k0_pay26 v13 v25
  have v31 : FVec F S256x256 .bf16 := k0_pay27 v30
  have v33 : FVec F S512x512 .f32 := k0_pay28 v13 v25 v32
  have v34 : FVec F S512x128 .f32 := k0_pay29 v13 v25 v32
  have c4_i32 : BitVec 32 := 4#32
  have c0_i32_15 : BitVec 32 := 0#32
  let ⟨v68, v71, v73, v75, v77⟩ : Σ' (v68 : FVec F S512x128 .f32) (v71 : BitVec 32) (v73 : IVec S512x128 32) (v75 : IVec S512x128 1), IVec S512x128 1 ← k0_part18 i arg1 harg1 arg2 harg2 wHbm (Memref.isWhole_whole _) arg4 harg4 arg5 harg5 arg6 harg6 arg7 harg7 arg8 harg8 arg9 harg9 arg10 harg10 arg11 harg11 arg12 harg12 wVmem (Memref.isWhole_whole _) wStage (Memref.isWhole_whole _) cc0_scratch2 v9 v33 v34 v35 c4_i32 c0_i32_15
  let ⟨v102, v119, v120⟩ : Σ' (v102 : FVec F S512x128 .f32) (v119 : IVec S512x128 32), IVec S512x128 32 ← k0_part19 i arg1 harg1 arg2 harg2 wHbm (Memref.isWhole_whole _) arg4 harg4 arg5 harg5 arg6 harg6 arg7 harg7 arg8 harg8 arg9 harg9 arg10 harg10 arg11 harg11 arg12 harg12 wVmem (Memref.isWhole_whole _) wStage (Memref.isWhole_whole _) cc0_scratch2 v9 v33 v68 v71 v73 v75 v77
  let ⟨v136, v153, v161, c3_i32_59⟩ : Σ' (v136 : FVec F S512x128 .f32) (v153 : IVec S512x128 32) (v161 : FVec F S512x128 .f32), BitVec 32 ← k0_part20 i arg1 harg1 arg2 harg2 wHbm (Memref.isWhole_whole _) arg4 harg4 arg5 harg5 arg6 harg6 arg7 harg7 arg8 harg8 arg9 harg9 arg10 harg10 arg11 harg11 arg12 harg12 wVmem (Memref.isWhole_whole _) wStage (Memref.isWhole_whole _) cc0_scratch2 v9 v33 v102 v119 v120
  let ⟨v175, v187, v196, v197⟩ : Σ' (v175 : FVec F S512x512 .f32) (v187 : FVec F S256x256 .f32) (v196 : FVec F S256x128 .f32), FVec F S256x128 .f32 ← k0_part21 i arg1 harg1 arg2 harg2 wHbm (Memref.isWhole_whole _) arg4 harg4 arg5 harg5 arg6 harg6 arg7 harg7 arg8 harg8 arg9 harg9 arg10 harg10 arg11 harg11 arg12 harg12 wVmem (Memref.isWhole_whole _) wStage (Memref.isWhole_whole _) cc0_scratch2 v9 v29 v31 v136 v153 v161 c3_i32_59
  let ⟨v229, v230, v233, v234⟩ : Σ' (v229 : FVec F S256x256 .f32) (v230 : FVec F S256x128 .f32) (v233 : FVec F S256x128 .f32), FVec F S256x128 .f32 ← k0_part22 i arg1 harg1 arg2 harg2 wHbm (Memref.isWhole_whole _) arg4 harg4 arg5 harg5 arg6 harg6 arg7 harg7 arg8 harg8 arg9 harg9 arg10 harg10 arg11 harg11 arg12 harg12 wVmem (Memref.isWhole_whole _) wStage (Memref.isWhole_whole _) cc0_scratch2 v31 v175 v187 v196 v197
  let ⟨v271, v272⟩ : Σ' (v271 : FVec F S256x256 .f32), FVec F S256x128 .f32 ← k0_part23 i arg1 harg1 arg2 harg2 wHbm (Memref.isWhole_whole _) arg4 harg4 arg5 harg5 arg6 harg6 arg7 harg7 arg8 harg8 arg9 harg9 arg10 harg10 arg11 harg11 arg12 harg12 wVmem (Memref.isWhole_whole _) wStage (Memref.isWhole_whole _) cc0_scratch2 v31 v175 v229 v230 v233 v234
  let ⟨v302, v308⟩ : Σ' (v302 : FVec F S256x256 .f32), FVec F S256x256 .f32 ← k0_part24 i arg1 harg1 arg2 harg2 wHbm (Memref.isWhole_whole _) arg4 harg4 arg5 harg5 arg6 harg6 arg7 harg7 arg8 harg8 arg9 harg9 arg10 harg10 arg11 harg11 arg12 harg12 wVmem (Memref.isWhole_whole _) wStage (Memref.isWhole_whole _) cc0_scratch2 v31 v175 v271 v272
  k0_part25 i arg1 harg1 arg2 harg2 wHbm (Memref.isWhole_whole _) arg4 harg4 arg5 harg5 arg6 harg6 arg7 harg7 arg8 harg8 arg9 harg9 arg10 harg10 arg11 harg11 arg12 harg12 wVmem (Memref.isWhole_whole _) wStage (Memref.isWhole_whole _) cc0_scratch2 v302 v308
  let ⟨v345, v373, v381⟩ : Σ' (v345 : FVec F S512x512 .f32) (v373 : FVec F S256x128 .f32), FVec F S256x128 .f32 ← k0_part26 i arg1 harg1 arg2 harg2 wHbm (Memref.isWhole_whole _) arg4 harg4 arg5 harg5 arg6 harg6 arg7 harg7 arg8 harg8 arg9 harg9 arg10 harg10 arg11 harg11 arg12 harg12 wVmem (Memref.isWhole_whole _) wStage (Memref.isWhole_whole _) cc0_scratch2 v29 v31
  let ⟨v415, v418⟩ : Σ' (v415 : FVec F S256x128 .f32), FVec F S256x128 .f32 ← k0_part27 i arg1 harg1 arg2 harg2 wHbm (Memref.isWhole_whole _) arg4 harg4 arg5 harg5 arg6 harg6 arg7 harg7 arg8 harg8 arg9 harg9 arg10 harg10 arg11 harg11 arg12 harg12 wVmem (Memref.isWhole_whole _) wStage (Memref.isWhole_whole _) cc0_scratch2 v31 v345 v373 v381
  let ⟨v441, v455⟩ : Σ' (v441 : FVec F S256x256 .f32), FVec F S256x128 .f32 ← k0_part28 i arg1 harg1 arg2 harg2 wHbm (Memref.isWhole_whole _) arg4 harg4 arg5 harg5 arg6 harg6 arg7 harg7 arg8 harg8 arg9 harg9 arg10 harg10 arg11 harg11 arg12 harg12 wVmem (Memref.isWhole_whole _) wStage (Memref.isWhole_whole _) cc0_scratch2 v31 v345 v415 v418
  let ⟨v483, v492, v493⟩ : Σ' (v483 : FVec F S256x256 .f32) (v492 : FVec F S256x128 .f32), FVec F S256x128 .f32 ← k0_part29 i arg1 harg1 arg2 harg2 wHbm (Memref.isWhole_whole _) arg4 harg4 arg5 harg5 arg6 harg6 arg7 harg7 arg8 harg8 arg9 harg9 arg10 harg10 arg11 harg11 arg12 harg12 wVmem (Memref.isWhole_whole _) wStage (Memref.isWhole_whole _) cc0_scratch2 v31 v345 v441 v455
  let ⟨v515, v527, v528⟩ : Σ' (v515 : FVec F S512x512 .f32) (v527 : FVec F S256x256 .f32), FVec F S256x128 .f32 ← k0_part30 i arg1 harg1 arg2 harg2 wHbm (Memref.isWhole_whole _) arg4 harg4 arg5 harg5 arg6 harg6 arg7 harg7 arg8 harg8 arg9 harg9 arg10 harg10 arg11 harg11 arg12 harg12 wVmem (Memref.isWhole_whole _) wStage (Memref.isWhole_whole _) cc0_scratch2 v29 v31 v483 v492 v493
  let v565 : FVec F S256x256 .f32 ← k0_part31 i arg1 harg1 arg2 harg2 wHbm (Memref.isWhole_whole _) arg4 harg4 arg5 harg5 arg6 harg6 arg7 harg7 arg8 harg8 arg9 harg9 arg10 harg10 arg11 harg11 arg12 harg12 wVmem (Memref.isWhole_whole _) wStage (Memref.isWhole_whole _) cc0_scratch2 v31 v515 v527 v528
  let ⟨v600, v602⟩ : Σ' (v600 : FVec F S256x256 .f32), FVec F S256x256 .bf16 ← k0_part32 i arg1 harg1 arg2 harg2 wHbm (Memref.isWhole_whole _) arg4 harg4 arg5 harg5 arg6 harg6 arg7 harg7 arg8 harg8 arg9 harg9 arg10 harg10 arg11 harg11 arg12 harg12 wVmem (Memref.isWhole_whole _) wStage (Memref.isWhole_whole _) cc0_scratch2 v515 v565
  let ⟨v635, v639⟩ : Σ' (v635 : FVec F S256x128 .f32), FVec F S256x128 .f32 ← k0_part33 i arg1 harg1 arg2 harg2 wHbm (Memref.isWhole_whole _) arg4 harg4 arg5 harg5 arg6 harg6 arg7 harg7 arg8 harg8 arg9 harg9 arg10 harg10 arg11 harg11 arg12 harg12 wVmem (Memref.isWhole_whole _) wStage (Memref.isWhole_whole _) cc0_scratch2 v31 v600 v602
  let ⟨v669, v672, v676⟩ : Σ' (v669 : FVec F S256x128 .f32) (v672 : FVec F S256x128 .f32), FVec F S256x128 .f32 ← k0_part34 i arg1 harg1 arg2 harg2 wHbm (Memref.isWhole_whole _) arg4 harg4 arg5 harg5 arg6 harg6 arg7 harg7 arg8 harg8 arg9 harg9 arg10 harg10 arg11 harg11 arg12 harg12 wVmem (Memref.isWhole_whole _) wStage (Memref.isWhole_whole _) cc0_scratch2 v31 v515 v635 v639
  let ⟨v685, v697⟩ : Σ' (v685 : FVec F S512x512 .f32), FVec F S256x256 .f32 ← k0_part35 i arg1 harg1 arg2 harg2 wHbm (Memref.isWhole_whole _) arg4 harg4 arg5 harg5 arg6 harg6 arg7 harg7 arg8 harg8 arg9 harg9 arg10 harg10 arg11 harg11 arg12 harg12 wVmem (Memref.isWhole_whole _) wStage (Memref.isWhole_whole _) cc0_scratch2 v29 v31 v669 v672 v676
  let ⟨v739, v748, v749⟩ : Σ' (v739 : FVec F S256x256 .f32) (v748 : FVec F S256x128 .f32), FVec F S256x128 .f32 ← k0_part36 i arg1 harg1 arg2 harg2 wHbm (Memref.isWhole_whole _) arg4 harg4 arg5 harg5 arg6 harg6 arg7 harg7 arg8 harg8 arg9 harg9 arg10 harg10 arg11 harg11 arg12 harg12 wVmem (Memref.isWhole_whole _) wStage (Memref.isWhole_whole _) cc0_scratch2 v31 v685 v697
  let ⟨v781, v782, v785, v786⟩ : Σ' (v781 : FVec F S256x256 .f32) (v782 : FVec F S256x128 .f32) (v785 : FVec F S256x128 .f32), FVec F S256x128 .f32 ← k0_part37 i arg1 harg1 arg2 harg2 wHbm (Memref.isWhole_whole _) arg4 harg4 arg5 harg5 arg6 harg6 arg7 harg7 arg8 harg8 arg9 harg9 arg10 harg10 arg11 harg11 arg12 harg12 wVmem (Memref.isWhole_whole _) wStage (Memref.isWhole_whole _) cc0_scratch2 v31 v685 v739 v748 v749
  let ⟨v823, v824⟩ : Σ' (v823 : FVec F S256x256 .f32), FVec F S256x128 .f32 ← k0_part38 i arg1 harg1 arg2 harg2 wHbm (Memref.isWhole_whole _) arg4 harg4 arg5 harg5 arg6 harg6 arg7 harg7 arg8 harg8 arg9 harg9 arg10 harg10 arg11 harg11 arg12 harg12 wVmem (Memref.isWhole_whole _) wStage (Memref.isWhole_whole _) cc0_scratch2 v31 v685 v781 v782 v785 v786
  k0_part39 i arg1 harg1 arg2 harg2 wHbm (Memref.isWhole_whole _) arg4 harg4 arg5 harg5 arg6 harg6 arg7 harg7 arg8 harg8 arg9 harg9 arg10 harg10 arg11 harg11 arg12 harg12 wVmem (Memref.isWhole_whole _) wStage (Memref.isWhole_whole _) cc0_scratch2 v29 v823 v824
  let v885 : Vec F S1024x512 .bf16 ← k0_part40 i arg1 harg1 arg2 harg2 wHbm (Memref.isWhole_whole _) arg4 harg4 arg5 harg5 arg6 harg6 arg7 harg7 arg8 harg8 arg9 harg9 arg10 harg10 arg11 harg11 arg12 harg12 wVmem (Memref.isWhole_whole _) wStage (Memref.isWhole_whole _) cc0_scratch2 v29
  let v887 : Vec F S1x512 .f32 ← Prog.lift (.load arg4 (Rect.unit (s := S1x2048) ![0, 1536] S1x512.size inb_S1x2048_S1x512_0_1536).toLoadRect (View.loadsAt_vmem h_S1x512))
  let v892 : Vec F S512x512 .bf16 ← Prog.lift (.load arg11 (Rect.unit (s := S512x3072) ![0, 1536] S512x512.size inb_S512x3072_S512x512_0_1536).toLoadRect (View.loadsAt_vmem h_S512x512))
  Prog.lift (.store arg11 (Rect.unit (s := S512x3072) ![0, 1536] S512x512.size inb_S512x3072_S512x512_0_1536) (k0_pay1 v29 v885 v887) Finset.univ (View.stores_vmem h_S512x512 (harg11.storeExact_slice rfl _ packedbf16_S512x3072_S512x512_0_1536) (fun _ => rfl)) (.inl rfl))
  pure ⟨⟩

/-- The rows of slab 0 that a grid point writes start at its batch. -/
theorem off1_eq : ∀ i : grid0.Coords, k0_off1 i = ![0, (i 0).val % 8, 0] := by decide +kernel

instance (i : grid0.Coords) : ClosedOff (k0_off1 i) := ⟨![0, (i 0).val % 8, 0], off1_eq i⟩

/-- The rows of slab 1 that a grid point writes start at its batch. -/
theorem off2_eq : ∀ i : grid0.Coords, k0_off2 i = ![1, (i 0).val % 8, 0] := by decide +kernel

instance (i : grid0.Coords) : ClosedOff (k0_off2 i) := ⟨![1, (i 0).val % 8, 0], off2_eq i⟩

/-- The rows of slab 2 that a grid point writes start at its batch. -/
theorem off3_eq : ∀ i : grid0.Coords, k0_off3 i = ![2, (i 0).val % 8, 0] := by decide +kernel

instance (i : grid0.Coords) : ClosedOff (k0_off3 i) := ⟨![2, (i 0).val % 8, 0], off3_eq i⟩

/-- The rows of slab 3 that a grid point writes start at its batch. -/
theorem off4_eq : ∀ i : grid0.Coords, k0_off4 i = ![3, (i 0).val % 8, 0] := by decide +kernel

instance (i : grid0.Coords) : ClosedOff (k0_off4 i) := ⟨![3, (i 0).val % 8, 0], off4_eq i⟩

/-- The condition under which the body fills the weight buffer. -/
abbrev first (i : grid0.Coords) : Prop :=
  Scalar.cmpi .ne (Scalar.extui (Scalar.cmpi .eq (BitVec.ofNat 32 (i 0).val) 0#32) : BitVec 32) 0#32 = 1#1

/-- At the first point the body fills the weight buffer and goes on. -/
theorem body_first (i : grid0.Coords) (arg1 : Memref sig .tc .vmem S512x1024 .f32) (harg1 : arg1.IsWhole) (arg2 : Memref sig .tc .vmem S1x1024 .f32) (harg2 : arg2.IsWhole) (arg4 : Memref sig .tc .vmem S1x2048 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S1x2048 .f32) (harg8 : arg8.IsWhole) (arg9 : Memref sig .tc .vmem S256x256 .bf16) (harg9 : arg9.IsWhole) (arg10 : Memref sig .tc .vmem S512x2560 .f32) (harg10 : arg10.IsWhole) (arg11 : Memref sig .tc .vmem S512x3072 .bf16) (harg11 : arg11.IsWhole) (arg12 : Memref sig .tc .vmem S4x4096x128 .f32) (harg12 : arg12.IsWhole) (h : first i) :
    cc0_in_proj (F := F) i arg1 harg1 arg2 harg2 wHbm (Memref.isWhole_whole _) arg4 harg4 arg5 harg5 arg6 harg6 arg7 harg7 arg8 harg8 arg9 harg9 arg10 harg10 arg11 harg11 arg12 harg12 wVmem (Memref.isWhole_whole _) wStage (Memref.isWhole_whole _) cc0_scratch2
      = (fill i arg1 harg1 arg2 harg2 arg4 harg4 arg5 harg5 arg6 harg6 arg7 harg7 arg8 harg8 arg9 harg9 arg10 harg10 arg11 harg11 arg12 harg12 >>= fun _ => rest i arg1 harg1 arg2 harg2 arg4 harg4 arg5 harg5 arg6 harg6 arg7 harg7 arg8 harg8 arg9 harg9 arg10 harg10 arg11 harg11 arg12 harg12) := by
  rw [cc0_in_proj_eq_skeleton]
  unfold cc0_in_proj_skel
  rw [k0_part17_eq_skeleton]
  unfold k0_part17_skel fill rest
  rw [dif_pos h]
  simp only [bind_assoc, pure_bind]

/-- At every other point the body goes on at once. -/
theorem body_later (i : grid0.Coords) (arg1 : Memref sig .tc .vmem S512x1024 .f32) (harg1 : arg1.IsWhole) (arg2 : Memref sig .tc .vmem S1x1024 .f32) (harg2 : arg2.IsWhole) (arg4 : Memref sig .tc .vmem S1x2048 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S1x2048 .f32) (harg8 : arg8.IsWhole) (arg9 : Memref sig .tc .vmem S256x256 .bf16) (harg9 : arg9.IsWhole) (arg10 : Memref sig .tc .vmem S512x2560 .f32) (harg10 : arg10.IsWhole) (arg11 : Memref sig .tc .vmem S512x3072 .bf16) (harg11 : arg11.IsWhole) (arg12 : Memref sig .tc .vmem S4x4096x128 .f32) (harg12 : arg12.IsWhole) (h : ¬first i) :
    cc0_in_proj (F := F) i arg1 harg1 arg2 harg2 wHbm (Memref.isWhole_whole _) arg4 harg4 arg5 harg5 arg6 harg6 arg7 harg7 arg8 harg8 arg9 harg9 arg10 harg10 arg11 harg11 arg12 harg12 wVmem (Memref.isWhole_whole _) wStage (Memref.isWhole_whole _) cc0_scratch2
      = rest i arg1 harg1 arg2 harg2 arg4 harg4 arg5 harg5 arg6 harg6 arg7 harg7 arg8 harg8 arg9 harg9 arg10 harg10 arg11 harg11 arg12 harg12 := by
  rw [cc0_in_proj_eq_skeleton]
  unfold cc0_in_proj_skel
  rw [k0_part17_eq_skeleton]
  unfold k0_part17_skel rest
  rw [dif_neg h]
  simp only [bind_assoc, pure_bind]

/-- What the rest of the body holds: its eight input tiles, the three output tiles and the weight buffer. -/
abbrev RestState (c : Dev nD) (arg1 : Memref sig .tc .vmem S512x1024 .f32) (arg2 : Memref sig .tc .vmem S1x1024 .f32) (arg4 : Memref sig .tc .vmem S1x2048 .f32) (arg5 : Memref sig .tc .vmem S512x128 .f32) (arg6 : Memref sig .tc .vmem S512x128 .f32) (arg7 : Memref sig .tc .vmem S512x128 .f32) (arg8 : Memref sig .tc .vmem S1x2048 .f32) (arg9 : Memref sig .tc .vmem S256x256 .bf16) (arg10 : Memref sig .tc .vmem S512x2560 .f32) (arg11 : Memref sig .tc .vmem S512x3072 .bf16) (arg12 : Memref sig .tc .vmem S4x4096x128 .f32) (x1 : BufTy.Contents (Elt F) arg1.view.ty) (x2 : BufTy.Contents (Elt F) arg2.view.ty) (x4 : BufTy.Contents (Elt F) arg4.view.ty) (x5 : BufTy.Contents (Elt F) arg5.view.ty) (x6 : BufTy.Contents (Elt F) arg6.view.ty) (x7 : BufTy.Contents (Elt F) arg7.view.ty) (x8 : BufTy.Contents (Elt F) arg8.view.ty) (x9 : BufTy.Contents (Elt F) arg9.view.ty) (f10 : BufTy.Contents (Elt F) arg10.view.ty) (f11 : BufTy.Contents (Elt F) arg11.view.ty) (f12 : BufTy.Contents (Elt F) arg12.view.ty) (fw : Buf (Elt F) (wVmem.view.loc (c : Thread nD τ))) : sProp 𝕄 :=
  iprop((arg1.view.loc (c : Thread nD τ) ↦[arg1.view.set]{fullShare} x1) ∗ (arg2.view.loc (c : Thread nD τ) ↦[arg2.view.set]{fullShare} x2) ∗ (arg4.view.loc (c : Thread nD τ) ↦[arg4.view.set]{fullShare} x4) ∗ (arg5.view.loc (c : Thread nD τ) ↦[arg5.view.set]{fullShare} x5) ∗ (arg6.view.loc (c : Thread nD τ) ↦[arg6.view.set]{fullShare} x6) ∗ (arg7.view.loc (c : Thread nD τ) ↦[arg7.view.set]{fullShare} x7) ∗ (arg8.view.loc (c : Thread nD τ) ↦[arg8.view.set]{fullShare} x8) ∗ (arg9.view.loc (c : Thread nD τ) ↦[arg9.view.set]{fullShare} x9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ heldAt c wVmem fw)

set_option maxHeartbeats 16000000 in
/-- The run of the rest of the body, from any contents. -/
@[irreducible] def restRun (i : grid0.Coords) (c : Dev nD) (arg1 : Memref sig .tc .vmem S512x1024 .f32) (harg1 : arg1.IsWhole) (arg2 : Memref sig .tc .vmem S1x1024 .f32) (harg2 : arg2.IsWhole) (arg4 : Memref sig .tc .vmem S1x2048 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S1x2048 .f32) (harg8 : arg8.IsWhole) (arg9 : Memref sig .tc .vmem S256x256 .bf16) (harg9 : arg9.IsWhole) (arg10 : Memref sig .tc .vmem S512x2560 .f32) (harg10 : arg10.IsWhole) (arg11 : Memref sig .tc .vmem S512x3072 .bf16) (harg11 : arg11.IsWhole) (arg12 : Memref sig .tc .vmem S4x4096x128 .f32) (harg12 : arg12.IsWhole) (x1 : BufTy.Contents (Elt F) arg1.view.ty) (x2 : BufTy.Contents (Elt F) arg2.view.ty) (x4 : BufTy.Contents (Elt F) arg4.view.ty) (x5 : BufTy.Contents (Elt F) arg5.view.ty) (x6 : BufTy.Contents (Elt F) arg6.view.ty) (x7 : BufTy.Contents (Elt F) arg7.view.ty) (x8 : BufTy.Contents (Elt F) arg8.view.ty) (x9 : BufTy.Contents (Elt F) arg9.view.ty) (f10 : BufTy.Contents (Elt F) arg10.view.ty) (f11 : BufTy.Contents (Elt F) arg11.view.ty) (f12 : BufTy.Contents (Elt F) arg12.view.ty) (fw : Buf (Elt F) (wVmem.view.loc (c : Thread nD τ))) :
    { g : BufTy.Contents (Elt F) arg10.view.ty × BufTy.Contents (Elt F) arg11.view.ty × BufTy.Contents (Elt F) arg12.view.ty //
      RestState (F := F) c arg1 arg2 arg4 arg5 arg6 arg7 arg8 arg9 arg10 arg11 arg12 x1 x2 x4 x5 x6 x7 x8 x9 f10 f11 f12 fw
      ⊢ wp frame (wpE (defs₀ (F := F)) Variants.none c none) Set.univ (rest (F := F) i arg1 harg1 arg2 harg2 arg4 harg4 arg5 harg5 arg6 harg6 arg7 harg7 arg8 harg8 arg9 harg9 arg10 harg10 arg11 harg11 arg12 harg12)
          (fun _ => RestState (F := F) c arg1 arg2 arg4 arg5 arg6 arg7 arg8 arg9 arg10 arg11 arg12 x1 x2 x4 x5 x6 x7 x8 x9 g.1 g.2.1 g.2.2 fw) } := by
  refine ⟨⟨?_, ?_, ?_⟩, ?run⟩
  case run =>
    unfold rest
    iintro ⟨H1, H2, H4, H5, H6, H7, H8, H9, H10, H11, H12, HW⟩
    sl_exec
    sl_step
    sl_close

end Cert.Proof.InProj

end
-- ==== Proof.InTile.lean ====
/-
  What a grid point leaves in its bf16 tile: six column bands of the normalised tokens' projection.
-/
module

public import proofs.«01_k».proof.Proof.Gen.InProjIdeal.Frame
public import proofs.«01_k».proof.Proof.Gen.InProjIdeal.Skeleton
public import proofs.«01_k».proof.Proof.InRest
public import Idealize.ShloMosaic.Lib.Tactic
public import Idealize.ShloMosaic.Lib.Transfers
public import Idealize.ShloMosaic.Lib.ViewIndex
public import Idealize.ShloMosaic.Lib.ValueLayout
public import Idealize.ShloMosaic.Lib.Pointwise
public import Idealize.ShloMosaic.Lib.Ring

@[expose] public section

set_option maxRecDepth 16384

noncomputable section

namespace Cert.Proof.InProj

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

/-- 512 columns of the weights from column `o` on. -/
def slab (w : S1024x6144.Idx → Elt F .bf16) (o : ℕ) : Vec F S1024x512 .bf16 := fun y =>
  w (ix2 (y 0) ⟨(o + (y 1).val) % 6144, Nat.mod_lt _ (by decide)⟩)

/-- 512 lanes of the bias from lane `o` on. -/
def lanes (b : S1x2048.Idx → Elt F .f32) (o : ℕ) : Vec F S1x512 .f32 := fun y =>
  b (ix2 0 ⟨(o + (y 1).val) % 2048, Nat.mod_lt _ (by decide)⟩)

/-- The tile: the first 2048 columns are the merge gates with their bias, the next 512 the state-space side gate, the last the attention side gate. -/
def tile (n : FVec F S512x1024 .bf16) (w : S1024x6144.Idx → Elt F .bf16) (b : S1x2048.Idx → Elt F .f32) : S512x3072.Idx → Elt F .bf16 := fun y =>
  if (y 1).val < 2048 then
    k0_pay1 n (slab w (4096 + 512 * ((y 1).val / 512))) (lanes b (512 * ((y 1).val / 512))) (ix2 (y 0) ⟨(y 1).val % 512, Nat.mod_lt _ (by decide)⟩)
  else k0_pay44 n (slab w (if (y 1).val < 2560 then 512 else 3584)) (ix2 (y 0) ⟨(y 1).val % 512, Nat.mod_lt _ (by decide)⟩)

/-- A load of 512 columns of the weight buffer. -/
theorem load_slab (c : Dev nD) (fw : Buf (Elt F) (wVmem.view.loc (c : Thread nD τ))) {o : ℕ} (ho : o + 512 ≤ 6144)
    {hr : ∀ a, (![0, o] : Fin 2 → ℕ) a + S1024x512.size a ≤ S1024x6144.size a} :
    wVmem.view.readAt (Elt F) (Rect.unit (s := S1024x6144) ![0, o] S1024x512.size hr).toLoadRect fw = slab (wVmem.view.read (Elt F) fw) o := by
  funext y
  have hy : (y 1).val < 512 := (y 1).isLt
  rw [View.readAt_apply]
  refine congrArg (wVmem.view.read (Elt F) fw) (funext fun a => Fin.ext ?_)
  match a with
  | ⟨0, _⟩ => exact (Nat.zero_add _).trans (Nat.one_mul _)
  | ⟨1, _⟩ => exact (congrArg (o + ·) (Nat.one_mul _)).trans (Nat.mod_eq_of_lt ((Nat.add_lt_add_left hy o).trans_le ho)).symm

/-- A load of 512 lanes of the bias. -/
theorem load_lanes (M : Memref sig .tc .vmem S1x2048 .f32) (x : BufTy.Contents (Elt F) M.view.ty) {o : ℕ} (ho : o + 512 ≤ 2048)
    {hr : ∀ a, (![0, o] : Fin 2 → ℕ) a + S1x512.size a ≤ S1x2048.size a} :
    M.view.readAt (Elt F) (Rect.unit (s := S1x2048) ![0, o] S1x512.size hr).toLoadRect x = lanes (M.view.read (Elt F) x) o := by
  funext y
  have hy : (y 1).val < 512 := (y 1).isLt
  have hz : (y 0).val < 1 := (y 0).isLt
  rw [View.readAt_apply]
  refine congrArg (M.view.read (Elt F) x) (funext fun a => Fin.ext ?_)
  match a with
  | ⟨0, _⟩ => exact ((Nat.zero_add _).trans (Nat.one_mul _)).trans (Nat.lt_one_iff.mp hz)
  | ⟨1, _⟩ => exact (congrArg (o + ·) (Nat.one_mul _)).trans (Nat.mod_eq_of_lt ((Nat.add_lt_add_left hy o).trans_le ho)).symm

/-- A load of a whole tile. -/
theorem load_all {s : Shape} {e : EltTy} (M : Memref sig .tc .vmem s e) (x : BufTy.Contents (Elt F) M.view.ty) {off : Fin s.rank → ℕ} (ho : off = fun _ => 0)
    {hr : ∀ a, off a + s.size a ≤ s.size a} :
    M.view.readAt (Elt F) (Rect.unit off s.size hr).toLoadRect x = M.view.read (Elt F) x := by
  rw [View.readAt_eq_ld, View.ld_unit_zero ho]

/-- The offset of a whole tile is zero. -/
theorem zero_off : (![0, 0] : Fin 2 → ℕ) = fun _ => 0 := funext fun a => by fin_cases a <;> rfl

/-- A band of the merge gates is the tile's. -/
theorem gate_piece (n : FVec F S512x1024 .bf16) (w : S1024x6144.Idx → Elt F .bf16) (b : S1x2048.Idx → Elt F .f32) {q o : ℕ} (hq : q < 4) (ho : o = 512 * q)
    {hr : ∀ a, (![0, o] : Fin 2 → ℕ) a + S512x512.size a ≤ S512x3072.size a} (P : Vec F S512x512 .bf16)
    (hP : P = k0_pay1 n (slab w (4096 + 512 * q)) (lanes b (512 * q)))
    (x : (Rect.unit (s := S512x3072) ![0, o] S512x512.size hr).shape.Idx) :
    P x = tile n w b ((Rect.unit (s := S512x3072) ![0, o] S512x512.size hr).emb x) := by
  have hx : (x 1).val < 512 := (x 1).isLt
  have e1 : (((Rect.unit (s := S512x3072) ![0, o] S512x512.size hr).emb x) 1).val = 512 * q + (x 1).val :=
    (congrArg (o + ·) (Nat.one_mul _)).trans (congrArg (· + (x 1).val) ho)
  have e0 : ((Rect.unit (s := S512x3072) ![0, o] S512x512.size hr).emb x) 0 = x 0 := Fin.ext ((Nat.zero_add _).trans (Nat.one_mul _))
  unfold tile
  rw [if_pos (by rw [e1]; omega)]
  have hd : (((Rect.unit (s := S512x3072) ![0, o] S512x512.size hr).emb x) 1).val / 512 = q := by rw [e1]; omega
  rw [hd, hP]
  refine congrArg _ (funext fun a => Fin.ext ?_)
  match a with
  | ⟨0, _⟩ => exact (congrArg Fin.val e0).symm
  | ⟨1, _⟩ => show (x 1).val = (((Rect.unit (s := S512x3072) ![0, o] S512x512.size hr).emb x) 1).val % 512; rw [e1]; omega

/-- A side gate's band is the tile's. -/
theorem side_piece (n : FVec F S512x1024 .bf16) (w : S1024x6144.Idx → Elt F .bf16) (b : S1x2048.Idx → Elt F .f32) {o u : ℕ}
    (ho : o = 2048 ∧ u = 512 ∨ o = 2560 ∧ u = 3584)
    {hr : ∀ a, (![0, o] : Fin 2 → ℕ) a + S512x512.size a ≤ S512x3072.size a} (P : Vec F S512x512 .bf16)
    (hP : P = k0_pay44 n (slab w u))
    (x : (Rect.unit (s := S512x3072) ![0, o] S512x512.size hr).shape.Idx) :
    P x = tile n w b ((Rect.unit (s := S512x3072) ![0, o] S512x512.size hr).emb x) := by
  have hx : (x 1).val < 512 := (x 1).isLt
  have e1 : (((Rect.unit (s := S512x3072) ![0, o] S512x512.size hr).emb x) 1).val = o + (x 1).val :=
    congrArg (o + ·) (Nat.one_mul _)
  have e0 : ((Rect.unit (s := S512x3072) ![0, o] S512x512.size hr).emb x) 0 = x 0 := Fin.ext ((Nat.zero_add _).trans (Nat.one_mul _))
  unfold tile
  rw [if_neg (by rw [e1]; omega)]
  have hu : (if (((Rect.unit (s := S512x3072) ![0, o] S512x512.size hr).emb x) 1).val < 2560 then 512 else 3584) = u := by
    rw [e1]; split <;> omega
  rw [hu, hP]
  refine congrArg _ (funext fun a => Fin.ext ?_)
  match a with
  | ⟨0, _⟩ => exact (congrArg Fin.val e0).symm
  | ⟨1, _⟩ => show (x 1).val = (((Rect.unit (s := S512x3072) ![0, o] S512x512.size hr).emb x) 1).val % 512; rw [e1]; omega

set_option maxHeartbeats 4000000 in
/-- After the rest of the body the bf16 tile holds `tile` of the normalised tokens, the weight buffer and the bias. -/
theorem restRun_read (i : grid0.Coords) (c : Dev nD) (arg1 : Memref sig .tc .vmem S512x1024 .f32) (harg1 : arg1.IsWhole) (arg2 : Memref sig .tc .vmem S1x1024 .f32) (harg2 : arg2.IsWhole) (arg4 : Memref sig .tc .vmem S1x2048 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S1x2048 .f32) (harg8 : arg8.IsWhole) (arg9 : Memref sig .tc .vmem S256x256 .bf16) (harg9 : arg9.IsWhole) (arg10 : Memref sig .tc .vmem S512x2560 .f32) (harg10 : arg10.IsWhole) (arg11 : Memref sig .tc .vmem S512x3072 .bf16) (harg11 : arg11.IsWhole) (arg12 : Memref sig .tc .vmem S4x4096x128 .f32) (harg12 : arg12.IsWhole) (x1 : BufTy.Contents (Elt F) arg1.view.ty) (x2 : BufTy.Contents (Elt F) arg2.view.ty) (x4 : BufTy.Contents (Elt F) arg4.view.ty) (x5 : BufTy.Contents (Elt F) arg5.view.ty) (x6 : BufTy.Contents (Elt F) arg6.view.ty) (x7 : BufTy.Contents (Elt F) arg7.view.ty) (x8 : BufTy.Contents (Elt F) arg8.view.ty) (x9 : BufTy.Contents (Elt F) arg9.view.ty) (f10 : BufTy.Contents (Elt F) arg10.view.ty) (f11 : BufTy.Contents (Elt F) arg11.view.ty) (f12 : BufTy.Contents (Elt F) arg12.view.ty) (fw : Buf (Elt F) (wVmem.view.loc (c : Thread nD τ))) :
    arg11.view.read (Elt F) (restRun (F := F) i c arg1 harg1 arg2 harg2 arg4 harg4 arg5 harg5 arg6 harg6 arg7 harg7 arg8 harg8 arg9 harg9 arg10 harg10 arg11 harg11 arg12 harg12 x1 x2 x4 x5 x6 x7 x8 x9 f10 f11 f12 fw).1.2.1
      = tile (k0_pay26 (arg1.view.read (Elt F) x1) (arg2.view.read (Elt F) x2)) (wVmem.view.read (Elt F) fw) (arg4.view.read (Elt F) x4) := by
  have hn : k0_pay26 (arg1.view.readAt (Elt F) (Rect.unit ![0, 0] S512x1024.size inb_S512x1024_S512x1024_0_0).toLoadRect x1)
        (arg2.view.readAt (Elt F) (Rect.unit ![0, 0] S1x1024.size inb_S1x1024_S1x1024_0_0).toLoadRect x2)
      = k0_pay26 (arg1.view.read (Elt F) x1) (arg2.view.read (Elt F) x2) := by
    rw [load_all arg1 x1 zero_off, load_all arg2 x2 zero_off]
  have hg : ∀ o q : ℕ, ∀ (ho : o = 512 * q) (hq : q < 4) (hr hs),
      k0_pay1 (k0_pay26 (arg1.view.readAt (Elt F) (Rect.unit ![0, 0] S512x1024.size inb_S512x1024_S512x1024_0_0).toLoadRect x1)
        (arg2.view.readAt (Elt F) (Rect.unit ![0, 0] S1x1024.size inb_S1x1024_S1x1024_0_0).toLoadRect x2))
        (wVmem.view.readAt (Elt F) (Rect.unit (s := S1024x6144) ![0, 4096 + o] S1024x512.size hr).toLoadRect fw)
        (arg4.view.readAt (Elt F) (Rect.unit (s := S1x2048) ![0, o] S1x512.size hs).toLoadRect x4)
      = k0_pay1 (k0_pay26 (arg1.view.read (Elt F) x1) (arg2.view.read (Elt F) x2)) (slab (wVmem.view.read (Elt F) fw) (4096 + 512 * q)) (lanes (arg4.view.read (Elt F) x4) (512 * q)) := by
    rintro o q rfl hq hr hs
    rw [hn, load_slab c fw (by omega), load_lanes arg4 x4 (by omega)]
  have hz : ∀ o : ℕ, o + 512 ≤ 6144 → ∀ hr, k0_pay44 (k0_pay26 (arg1.view.readAt (Elt F) (Rect.unit ![0, 0] S512x1024.size inb_S512x1024_S512x1024_0_0).toLoadRect x1)
        (arg2.view.readAt (Elt F) (Rect.unit ![0, 0] S1x1024.size inb_S1x1024_S1x1024_0_0).toLoadRect x2))
        (wVmem.view.readAt (Elt F) (Rect.unit (s := S1024x6144) ![0, o] S1024x512.size hr).toLoadRect fw)
      = k0_pay44 (k0_pay26 (arg1.view.read (Elt F) x1) (arg2.view.read (Elt F) x2)) (slab (wVmem.view.read (Elt F) fw) o) := by
    intro o ho hr
    rw [hn, load_slab c fw ho]
  unfold restRun
  funext y
  refine View.read_writes_apply_of_pieces _ _ (tile _ _ _) _ ?_ y ?_
  · simp only [List.forall_mem_cons]
    refine ⟨?_, ?_, ?_, ?_, ?_, ?_, fun _ h => absurd h List.not_mem_nil⟩
    · exact gate_piece _ _ _ (q := 3) (by decide) rfl _ (hg 1536 3 rfl (by decide) _ _)
    · exact gate_piece _ _ _ (q := 2) (by decide) rfl _ (hg 1024 2 rfl (by decide) _ _)
    · exact gate_piece _ _ _ (q := 1) (by decide) rfl _ (hg 512 1 rfl (by decide) _ _)
    · exact gate_piece _ _ _ (q := 0) (by decide) rfl _ (hg 0 0 rfl (by decide) _ _)
    · exact side_piece _ _ _ (.inr ⟨rfl, rfl⟩) _ (hz 3584 (by decide) _)
    · exact side_piece _ _ _ (.inl ⟨rfl, rfl⟩) _ (hz 512 (by decide) _)
  · exact View.cover_of_tiledL _ ![512, 512] rfl y

end Cert.Proof.InProj

end
-- ==== Proof.InNarrow.lean ====
/-
  What the first grid point's filling leaves in the weight buffer: the weight matrix, each entry narrowed.
-/
module

public import proofs.«01_k».proof.Proof.Gen.InProjIdeal.Frame
public import proofs.«01_k».proof.Proof.Gen.InProjIdeal.Skeleton
public import proofs.«01_k».proof.Proof.InWeights
public import Idealize.ShloMosaic.Lib.Tactic
public import Idealize.ShloMosaic.Lib.Transfers
public import Idealize.ShloMosaic.Lib.ViewIndex
public import Idealize.ShloMosaic.Lib.ValueLayout
public import Idealize.ShloMosaic.Lib.Pointwise
public import Idealize.ShloMosaic.Lib.Ring

@[expose] public section

set_option maxRecDepth 16384

noncomputable section

namespace Cert.Proof.InProj

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

/-- The narrowed weight matrix. -/
def narrow (c : Dev nD) (fh : Buf (Elt F) (wHbm.view.loc (c : Thread nD τ))) : S1024x6144.Idx → Elt F .bf16 :=
  fun y => FloatOps.truncf FTy.bf16 bitsLt_bf16_f32 (wHbm.view.read (Elt F) fh (ix3 0 (y 0) (y 1)))

/-- A staging slot loaded just after a copy landed in it holds what was copied. -/
theorem load_hit {k : ℕ} {h h'} {hs hc} (f : wStage.view.ty.Contents (Elt F)) (d : S1024x256.Idx → Elt F .f32) :
    shapeCast S1024x256 (View.readAt (Elt F) wStage.view (Rect.unit (s := S3x1024x256) ![k, 0, 0] S1x1024x256.size h).toLoadRect
      (View.write (Elt F) ((wStage.slice (Rect.unit (s := S3x1024x256) ![k, 0, 0] S1x1024x256.size h) h').squeeze S1024x256 hs).view f d Finset.univ)) hc = d :=
  funext fun y => View.read_write_reshape (v := wStage.view.slice (Rect.unit (s := S3x1024x256) ![k, 0, 0] S1x1024x256.size h)) hc f d y

/-- A staging slot loaded after a copy landed in another one holds what it held. -/
theorem load_miss {j k : ℕ} (hjk : j ≠ k) {h h' h''} {hs} (f : wStage.view.ty.Contents (Elt F)) (d : S1024x256.Idx → Elt F .f32) :
    View.readAt (Elt F) wStage.view (Rect.unit (s := S3x1024x256) ![j, 0, 0] S1x1024x256.size h).toLoadRect
      (View.write (Elt F) ((wStage.slice (Rect.unit (s := S3x1024x256) ![k, 0, 0] S1x1024x256.size h') h'').squeeze S1024x256 hs).view f d Finset.univ)
      = View.readAt (Elt F) wStage.view (Rect.unit (s := S3x1024x256) ![j, 0, 0] S1x1024x256.size h).toLoadRect f := by
  funext y
  show View.write (Elt F) ((wStage.slice (Rect.unit (s := S3x1024x256) ![k, 0, 0] S1x1024x256.size h') h'').squeeze S1024x256 hs).view f d Finset.univ (wStage.view.emb ((Rect.unit (s := S3x1024x256) ![j, 0, 0] S1x1024x256.size h).emb y)) = f (wStage.view.emb ((Rect.unit (s := S3x1024x256) ![j, 0, 0] S1x1024x256.size h).emb y))
  refine View.write_of_not_mem (v := ((wStage.slice (Rect.unit (s := S3x1024x256) ![k, 0, 0] S1x1024x256.size h') h'').squeeze S1024x256 hs).view) f d Finset.univ (fun hm => ?_)
  have hd : Disjoint (wStage.view.slice (Rect.unit (s := S3x1024x256) ![j, 0, 0] S1x1024x256.size h)).set (wStage.view.slice (Rect.unit (s := S3x1024x256) ![k, 0, 0] S1x1024x256.size h')).set :=
    View.disjoint_slice (Rect.unit_disjoint 0 (by show j + 1 ≤ k ∨ k + 1 ≤ j; omega))
  refine Finset.disjoint_left.mp hd (Finset.mem_map_of_mem _ (Finset.mem_univ y)) ?_
  obtain ⟨x, -, e⟩ := Finset.mem_map.mp hm
  exact Finset.mem_map.mpr ⟨Shape.reshapeEquiv hs.numel_eq x, Finset.mem_univ _, e⟩

/-- A staging slot loaded two later copies into the other slots after its own landed. -/
theorem load_slot {k a b : ℕ} (ha : k ≠ a) (hb : k ≠ b) {h h₁ h₁' h₂ h₂' h'} {hs hs₁ hs₂ hc} (f : wStage.view.ty.Contents (Elt F)) (d d₁ d₂ : S1024x256.Idx → Elt F .f32) :
    shapeCast S1024x256 (View.readAt (Elt F) wStage.view (Rect.unit (s := S3x1024x256) ![k, 0, 0] S1x1024x256.size h).toLoadRect
      (View.write (Elt F) ((wStage.slice (Rect.unit (s := S3x1024x256) ![a, 0, 0] S1x1024x256.size h₁) h₁').squeeze S1024x256 hs₁).view
        (View.write (Elt F) ((wStage.slice (Rect.unit (s := S3x1024x256) ![b, 0, 0] S1x1024x256.size h₂) h₂').squeeze S1024x256 hs₂).view
          (View.write (Elt F) ((wStage.slice (Rect.unit (s := S3x1024x256) ![k, 0, 0] S1x1024x256.size h) h').squeeze S1024x256 hs).view f d Finset.univ)
          d₂ Finset.univ) d₁ Finset.univ)) hc = d := by
  rw [load_miss ha, load_miss hb, load_hit]

/-- A staging slot loaded one later copy into another slot after its own landed. -/
theorem load_slot' {k a : ℕ} (ha : k ≠ a) {h h₁ h₁' h'} {hs hs₁ hc} (f : wStage.view.ty.Contents (Elt F)) (d d₁ : S1024x256.Idx → Elt F .f32) :
    shapeCast S1024x256 (View.readAt (Elt F) wStage.view (Rect.unit (s := S3x1024x256) ![k, 0, 0] S1x1024x256.size h).toLoadRect
      (View.write (Elt F) ((wStage.slice (Rect.unit (s := S3x1024x256) ![a, 0, 0] S1x1024x256.size h₁) h₁').squeeze S1024x256 hs₁).view
        (View.write (Elt F) ((wStage.slice (Rect.unit (s := S3x1024x256) ![k, 0, 0] S1x1024x256.size h) h').squeeze S1024x256 hs).view f d Finset.univ)
        d₁ Finset.univ)) hc = d := by
  rw [load_miss ha, load_hit]

/-- What one copy carries: 256 columns of the weight matrix. -/
theorem copy_apply (c : Dev nD) (fh : Buf (Elt F) (wHbm.view.loc (c : Thread nD τ))) {o : ℕ} {h h'} {hs} (hw : ∀ k : Fin 256, o + k.val < 6144) (r : Fin 1024) (k : Fin 256) :
    View.read (Elt F) ((wHbm.slice (Rect.unit (s := S1x1024x6144) ![0, 0, o] S1x1024x256.size h) h').squeeze S1024x256 hs).view fh (ix2 r k)
      = wHbm.view.read (Elt F) fh (ix3 0 r ⟨o + k.val, hw k⟩) := by
  show wHbm.view.read (Elt F) fh ((Rect.unit (s := S1x1024x6144) ![0, 0, o] S1x1024x256.size h).emb (Shape.reshapeEquiv hs.numel_eq (ix2 r k))) = _
  refine congrArg _ (funext fun a => Fin.ext ?_)
  rw [show Shape.reshapeEquiv hs.numel_eq (ix2 r k) = ix3 0 r k from ValueIdx.reshapeEquiv_ix2_1ab _ r k]
  match a with
  | ⟨0, _⟩ => rfl
  | ⟨1, _⟩ => exact (Nat.zero_add _).trans (Nat.one_mul _)
  | ⟨2, _⟩ => exact congrArg (o + ·) (Nat.one_mul _)

/-- What one copy carries, as a block. -/
theorem copied (c : Dev nD) (fh : Buf (Elt F) (wHbm.view.loc (c : Thread nD τ))) {o : ℕ} {h h'} {hs} (hw : ∀ k : Fin 256, o + k.val < 6144) :
    View.read (Elt F) ((wHbm.slice (Rect.unit (s := S1x1024x6144) ![0, 0, o] S1x1024x256.size h) h').squeeze S1024x256 hs).view fh
      = fun y => wHbm.view.read (Elt F) fh (ix3 0 (y 0) ⟨o + (y 1).val, hw (y 1)⟩) :=
  funext fun y => (congrArg _ (eq_ix2 y)).trans (copy_apply c fh hw (y 0) (y 1))

/-- What one step of the filling stores: its 256 columns of the narrowed matrix, given that the slot it loads holds them. -/
theorem piece_apply (c : Dev nD) (fh : Buf (Elt F) (wHbm.view.loc (c : Thread nD τ))) {o : ℕ} {hc hc' hb} (hw : ∀ k : Fin 256, o + k.val < 6144)
    {hr : ∀ a, (![0, o] : Fin 2 → ℕ) a + S1024x256.size a ≤ S1024x6144.size a}
    (L : Vec F S1x1024x256 .f32) (hL : shapeCast S1024x256 L hc = fun y => wHbm.view.read (Elt F) fh (ix3 0 (y 0) ⟨o + (y 1).val, hw (y 1)⟩))
    (x : (Rect.unit (s := S1024x6144) ![0, o] S1024x256.size hr).shape.Idx) :
    shapeCast S1024x256 (truncf .bf16 (shapeCast S1024x256 L hc) hb) hc' x = narrow c fh ((Rect.unit (s := S1024x6144) ![0, o] S1024x256.size hr).emb x) := by
  rw [hL]
  show FloatOps.truncf FTy.bf16 _ (wHbm.view.read (Elt F) fh (ix3 0 ((Shape.reshapeEquiv hc' x) 0) ⟨o + ((Shape.reshapeEquiv hc' x) 1).val, _⟩)) = FloatOps.truncf FTy.bf16 _ _
  refine congrArg _ (congrArg _ ?_)
  rw [show Shape.reshapeEquiv hc' x = x from Shape.reshapeEquiv_self _ _]
  refine funext fun a => Fin.ext ?_
  match a with
  | ⟨0, _⟩ => rfl
  | ⟨1, _⟩ => exact ((Nat.zero_add _).trans (Nat.one_mul _)).symm
  | ⟨2, _⟩ => exact (congrArg (o + ·) (Nat.one_mul _)).symm

set_option maxHeartbeats 4000000 in
/-- After the filling the weight buffer holds the narrowed weight matrix, whatever it and the slots held before. -/
theorem fillRun_read (i : grid0.Coords) (c : Dev nD) (arg1 : Memref sig .tc .vmem S512x1024 .f32) (harg1 : arg1.IsWhole) (arg2 : Memref sig .tc .vmem S1x1024 .f32) (harg2 : arg2.IsWhole) (arg4 : Memref sig .tc .vmem S1x2048 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S1x2048 .f32) (harg8 : arg8.IsWhole) (arg9 : Memref sig .tc .vmem S256x256 .bf16) (harg9 : arg9.IsWhole) (arg10 : Memref sig .tc .vmem S512x2560 .f32) (harg10 : arg10.IsWhole) (arg11 : Memref sig .tc .vmem S512x3072 .bf16) (harg11 : arg11.IsWhole) (arg12 : Memref sig .tc .vmem S4x4096x128 .f32) (harg12 : arg12.IsWhole)
    (fh : Buf (Elt F) (wHbm.view.loc (c : Thread nD τ))) (f13 : Buf (Elt F) (wVmem.view.loc (c : Thread nD τ))) (f14 : Buf (Elt F) (wStage.view.loc (c : Thread nD τ))) :
    wVmem.view.read (Elt F) (fillRun i c arg1 harg1 arg2 harg2 arg4 harg4 arg5 harg5 arg6 harg6 arg7 harg7 arg8 harg8 arg9 harg9 arg10 harg10 arg11 harg11 arg12 harg12 fh f13 f14).1 = narrow c fh := by
  unfold fillRun
  funext y
  refine View.read_writes_apply_of_pieces _ _ (narrow c fh) _ ?_ y ?_
  · simp only [List.forall_mem_cons]
    refine ⟨?_, ?_, ?_, ?_, ?_, ?_, ?_, ?_, ?_, ?_, ?_, ?_, ?_, ?_, ?_, ?_, ?_, ?_, ?_, ?_, ?_, ?_, ?_, ?_, fun _ h => absurd h List.not_mem_nil⟩
    · exact piece_apply c fh (o := 5888) (fun k => by omega) _ ((load_hit (k := 2) _ _).trans (copied c fh (fun k => by omega)))
    · exact piece_apply c fh (o := 5632) (fun k => by omega) _ ((load_slot' (k := 1) (a := 2) (by decide) _ _ _).trans (copied c fh (fun k => by omega)))
    · exact piece_apply c fh (o := 5376) (fun k => by omega) _ ((load_slot (k := 0) (a := 2) (b := 1) (by decide) (by decide) _ _ _ _).trans (copied c fh (fun k => by omega)))
    · exact piece_apply c fh (o := 5120) (fun k => by omega) _ ((load_slot (k := 2) (a := 1) (b := 0) (by decide) (by decide) _ _ _ _).trans (copied c fh (fun k => by omega)))
    · exact piece_apply c fh (o := 4864) (fun k => by omega) _ ((load_slot (k := 1) (a := 0) (b := 2) (by decide) (by decide) _ _ _ _).trans (copied c fh (fun k => by omega)))
    · exact piece_apply c fh (o := 4608) (fun k => by omega) _ ((load_slot (k := 0) (a := 2) (b := 1) (by decide) (by decide) _ _ _ _).trans (copied c fh (fun k => by omega)))
    · exact piece_apply c fh (o := 4352) (fun k => by omega) _ ((load_slot (k := 2) (a := 1) (b := 0) (by decide) (by decide) _ _ _ _).trans (copied c fh (fun k => by omega)))
    · exact piece_apply c fh (o := 4096) (fun k => by omega) _ ((load_slot (k := 1) (a := 0) (b := 2) (by decide) (by decide) _ _ _ _).trans (copied c fh (fun k => by omega)))
    · exact piece_apply c fh (o := 3840) (fun k => by omega) _ ((load_slot (k := 0) (a := 2) (b := 1) (by decide) (by decide) _ _ _ _).trans (copied c fh (fun k => by omega)))
    · exact piece_apply c fh (o := 3584) (fun k => by omega) _ ((load_slot (k := 2) (a := 1) (b := 0) (by decide) (by decide) _ _ _ _).trans (copied c fh (fun k => by omega)))
    · exact piece_apply c fh (o := 3328) (fun k => by omega) _ ((load_slot (k := 1) (a := 0) (b := 2) (by decide) (by decide) _ _ _ _).trans (copied c fh (fun k => by omega)))
    · exact piece_apply c fh (o := 3072) (fun k => by omega) _ ((load_slot (k := 0) (a := 2) (b := 1) (by decide) (by decide) _ _ _ _).trans (copied c fh (fun k => by omega)))
    · exact piece_apply c fh (o := 2816) (fun k => by omega) _ ((load_slot (k := 2) (a := 1) (b := 0) (by decide) (by decide) _ _ _ _).trans (copied c fh (fun k => by omega)))
    · exact piece_apply c fh (o := 2560) (fun k => by omega) _ ((load_slot (k := 1) (a := 0) (b := 2) (by decide) (by decide) _ _ _ _).trans (copied c fh (fun k => by omega)))
    · exact piece_apply c fh (o := 2304) (fun k => by omega) _ ((load_slot (k := 0) (a := 2) (b := 1) (by decide) (by decide) _ _ _ _).trans (copied c fh (fun k => by omega)))
    · exact piece_apply c fh (o := 2048) (fun k => by omega) _ ((load_slot (k := 2) (a := 1) (b := 0) (by decide) (by decide) _ _ _ _).trans (copied c fh (fun k => by omega)))
    · exact piece_apply c fh (o := 1792) (fun k => by omega) _ ((load_slot (k := 1) (a := 0) (b := 2) (by decide) (by decide) _ _ _ _).trans (copied c fh (fun k => by omega)))
    · exact piece_apply c fh (o := 1536) (fun k => by omega) _ ((load_slot (k := 0) (a := 2) (b := 1) (by decide) (by decide) _ _ _ _).trans (copied c fh (fun k => by omega)))
    · exact piece_apply c fh (o := 1280) (fun k => by omega) _ ((load_slot (k := 2) (a := 1) (b := 0) (by decide) (by decide) _ _ _ _).trans (copied c fh (fun k => by omega)))
    · exact piece_apply c fh (o := 1024) (fun k => by omega) _ ((load_slot (k := 1) (a := 0) (b := 2) (by decide) (by decide) _ _ _ _).trans (copied c fh (fun k => by omega)))
    · exact piece_apply c fh (o := 768) (fun k => by omega) _ ((load_slot (k := 0) (a := 2) (b := 1) (by decide) (by decide) _ _ _ _).trans (copied c fh (fun k => by omega)))
    · exact piece_apply c fh (o := 512) (fun k => by omega) _ ((load_slot (k := 2) (a := 1) (b := 0) (by decide) (by decide) _ _ _ _).trans (copied c fh (fun k => by omega)))
    · exact piece_apply c fh (o := 256) (fun k => by omega) _ ((load_slot (k := 1) (a := 0) (b := 2) (by decide) (by decide) _ _ _ _).trans (copied c fh (fun k => by omega)))
    · exact piece_apply c fh (o := 0) (fun k => by omega) _ ((load_slot (k := 0) (a := 2) (b := 1) (by decide) (by decide) _ _ _ _).trans (copied c fh (fun k => by omega)))
  · exact View.cover_of_tiledL _ ![1024, 256] rfl y

end Cert.Proof.InProj

end
-- ==== Proof.InFrame.lean ====
/-
  The run of the input projection over its grid: every grid point terminates, nothing is owed, every argument ends as it was
  found, and the bf16 array holds each point's tile. What the other two arrays hold is left open.
-/
module

public import proofs.«01_k».proof.Proof.Gen.InProjIdeal.Frame
public import proofs.«01_k».proof.Proof.Gen.InProjIdeal.Skeleton
public import proofs.«01_k».proof.Proof.InTile
public import proofs.«01_k».proof.Proof.InNarrow
public import Idealize.ShloMosaic.Lib.Tactic
public import Idealize.ShloMosaic.Lib.Transfers
public import Idealize.ShloMosaic.Lib.ViewIndex
public import Idealize.ShloMosaic.Lib.ValueLayout
public import Idealize.ShloMosaic.Lib.Pointwise
public import Idealize.ShloMosaic.Lib.Ring

@[expose] public section

set_option maxRecDepth 16384

noncomputable section

namespace Cert.Proof.InProj

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-- The kernel's own three counters. -/
abbrev cells : Fin 3 → SemLoc sig := fun j => (![SemLoc.dma 18, SemLoc.dma 19, SemLoc.dma 20] : Fin 3 → SemLoc sig) j

/-- They are no counters of the pipeline's. -/
theorem cells_facts : Pipeline.OwnSemFacts spec0 cells := by decide

/-- The counters at zero, one by one. -/
theorem cells_eq (c : Dev nD) :
    (Pipeline.ownSems0 (Ix := Unit) (Name := ℕ) (U := Pipeline.UD sig nD τ) (Lvl := ℕ) (Val := Elt F) (τ := τ) cells c : sProp 𝕄) = cellsZero c := by
  rw [Pipeline.ownSems0_eq_of_list c cells [0, 1, 2] (by decide) (by decide)]; rfl

/-- The one array left in HBM: the weights. -/
def left : Finset (Ref sig .tc) := {main_arg2}

/-- It is no window's array. -/
theorem left_sub : left ⊆ Pipeline.restRefs sig spec0 := by decide

/-- The weights held whole. -/
theorem left_eq (c : Dev nD) :
    (bigSep left (fun b => ((c : Thread nD τ).loc b) ↦{fullShare} V m c b) : sProp 𝕄) = heldAt c wHbm (V m c main_arg2) := by
  rw [BI.bigSep_eq_bigSepL_of_eq [main_arg2] (by decide) (by decide)]; rfl

/-- What is held between grid points: the weight buffer, narrowed weights in it from the first point on. -/
def between (c : Dev nD) (p : ℕ) : sProp 𝕄 :=
  iprop(((∃ fw, ⌜p = 0 ∨ wVmem.view.read (Elt F) fw = narrow c (V m c main_arg2)⌝ ∗ heldAt c wVmem fw) ∗ (∃ fs, heldAt c wStage fs))
    ∗ (∃ r, prngReg c r) ∗ cellsZero c ∗ heldAt c wHbm (V m c main_arg2))

/-- The launch's invariant, conjunct by conjunct. -/
theorem launch_eq (c : Dev nD) :
    (Pipeline.ΦD cells spec0 left (V m) c : sProp 𝕄)
      = iprop(((∃ fw, heldAt c wVmem fw) ∗ (∃ fs, heldAt c wStage fs)) ∗ (∃ r, prngReg c r) ∗ cellsZero c ∗ heldAt c wHbm (V m c main_arg2)) := by
  rw [Pipeline.ΦD_eq, scopedRest0_eq, cells_eq, left_eq]

/-- Before the first point nothing is said of the weight buffer. -/
theorem between_in (c : Dev nD) : (Pipeline.ΦD cells spec0 left (V m) c : sProp 𝕄) ⊢ between m c 0 := by
  rw [launch_eq]; unfold between
  iintro ⟨⟨⟨%fw, HW⟩, HS⟩, HR⟩
  isplitl [HW HS]
  · isplitl [HW]
    · iexists fw; isplitr; · ipureintro; exact .inl rfl
      iexact HW
    iexact HS
  iexact HR

/-- After the last its contents are dropped. -/
theorem between_out (c : Dev nD) (p : ℕ) : between m c p ⊢ (Pipeline.ΦD cells spec0 left (V m) c : sProp 𝕄) := by
  rw [launch_eq]; unfold between
  iintro ⟨⟨⟨%fw, -, HW⟩, HS⟩, HR⟩
  isplitl [HW HS]
  · isplitl [HW]; · iexists fw; iexact HW
    iexact HS
  iexact HR

/-- The bf16 tile of a grid point, of the point's input blocks and the weights. -/
def tileAt (c : Dev nD) (t : Fin cfg0.N) : S512x3072.Idx → Elt F .bf16 :=
  tile (k0_pay26 (iblk m c 0 t) (iblk m c 1 t)) (narrow c (V m c main_arg2)) (iblk m c 2 t)

/-- The two windows whose contents are left open: the f32 columns and the state-space lanes. -/
def openWindow : Fin 11 → Bool := fun w => w.val == 8 || w.val == 10

/-- What the windows hold: each input's block in place after every point, the bf16 tile. -/
def projData (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Dat.unnamed (cfg := cfg0) ⟨8, h⟩ t
    | ⟨9, _⟩ => tileAt m c t
    | ⟨10, h⟩ => Dat.unnamed (cfg := cfg0) ⟨10, h⟩ t
    | ⟨_ + 11, h⟩ => absurd h (Nat.not_lt.2 (Nat.le_add_left _ _))
  Φ p := between m c p.val
  q _ := fullShare
  owed _ := 0

/-- The data's arrays are those the region finds. -/
theorem projData_A (c : Dev nD) (w : Fin cfg0.W) : (projData m 0 c).A w = V m c (Pipeline.arrRef spec0 w) := by
  dsimp only [projData]

/-- The memref through which the body addresses window 0's buffer at point `t`. -/
abbrev at0 (t : Fin cfg0.N) : Memref sig .tc .vmem S512x1024 .f32 := win0_0.stage (cfg0.slots t 0)
/-- It is a whole buffer. -/
theorem at0_whole (t : Fin cfg0.N) : (at0 t).IsWhole := hstage0_0 ((cfg0.slots t 0).cast nbuf0_0)
/-- The memref through which the body addresses window 1's buffer at point `t`. -/
abbrev at1 (t : Fin cfg0.N) : Memref sig .tc .vmem S1x1024 .f32 := win0_1.stage (cfg0.slots t 1)
/-- It is a whole buffer. -/
theorem at1_whole (t : Fin cfg0.N) : (at1 t).IsWhole := hstage0_1 ((cfg0.slots t 1).cast nbuf0_1)
/-- The memref through which the body addresses window 2's buffer at point `t`. -/
abbrev at2 (t : Fin cfg0.N) : Memref sig .tc .vmem S1x2048 .f32 := win0_2.stage (cfg0.slots t 2)
/-- It is a whole buffer. -/
theorem at2_whole (t : Fin cfg0.N) : (at2 t).IsWhole := hstage0_2 ((cfg0.slots t 2).cast nbuf0_2)
/-- The memref through which the body addresses window 3's buffer at point `t`. -/
abbrev at3 (t : Fin cfg0.N) : Memref sig .tc .vmem S512x128 .f32 := win0_3.stage (cfg0.slots t 3)
/-- It is a whole buffer. -/
theorem at3_whole (t : Fin cfg0.N) : (at3 t).IsWhole := hstage0_3 ((cfg0.slots t 3).cast nbuf0_3)
/-- The memref through which the body addresses window 4's buffer at point `t`. -/
abbrev at4 (t : Fin cfg0.N) : Memref sig .tc .vmem S512x128 .f32 := win0_4.stage (cfg0.slots t 4)
/-- It is a whole buffer. -/
theorem at4_whole (t : Fin cfg0.N) : (at4 t).IsWhole := hstage0_4 ((cfg0.slots t 4).cast nbuf0_4)
/-- The memref through which the body addresses window 5's buffer at point `t`. -/
abbrev at5 (t : Fin cfg0.N) : Memref sig .tc .vmem S512x128 .f32 := win0_5.stage (cfg0.slots t 5)
/-- It is a whole buffer. -/
theorem at5_whole (t : Fin cfg0.N) : (at5 t).IsWhole := hstage0_5 ((cfg0.slots t 5).cast nbuf0_5)
/-- The memref through which the body addresses window 6's buffer at point `t`. -/
abbrev at6 (t : Fin cfg0.N) : Memref sig .tc .vmem S1x2048 .f32 := win0_6.stage (cfg0.slots t 6)
/-- It is a whole buffer. -/
theorem at6_whole (t : Fin cfg0.N) : (at6 t).IsWhole := hstage0_6 ((cfg0.slots t 6).cast nbuf0_6)
/-- The memref through which the body addresses window 7's buffer at point `t`. -/
abbrev at7 (t : Fin cfg0.N) : Memref sig .tc .vmem S256x256 .bf16 := win0_7.stage (cfg0.slots t 7)
/-- It is a whole buffer. -/
theorem at7_whole (t : Fin cfg0.N) : (at7 t).IsWhole := hstage0_7 ((cfg0.slots t 7).cast nbuf0_7)
/-- The memref through which the body addresses window 8's buffer at point `t`. -/
abbrev at8 (t : Fin cfg0.N) : Memref sig .tc .vmem S512x2560 .f32 := win0_8.stage (cfg0.slots t 8)
/-- It is a whole buffer. -/
theorem at8_whole (t : Fin cfg0.N) : (at8 t).IsWhole := hstage0_8 ((cfg0.slots t 8).cast nbuf0_8)
/-- The memref through which the body addresses window 9's buffer at point `t`. -/
abbrev at9 (t : Fin cfg0.N) : Memref sig .tc .vmem S512x3072 .bf16 := win0_9.stage (cfg0.slots t 9)
/-- It is a whole buffer. -/
theorem at9_whole (t : Fin cfg0.N) : (at9 t).IsWhole := hstage0_9 ((cfg0.slots t 9).cast nbuf0_9)
/-- The memref through which the body addresses window 10's buffer at point `t`. -/
abbrev at10 (t : Fin cfg0.N) : Memref sig .tc .vmem S4x4096x128 .f32 := win0_10.stage (cfg0.slots t 10)
/-- It is a whole buffer. -/
theorem at10_whole (t : Fin cfg0.N) : (at10 t).IsWhole := hstage0_10 ((cfg0.slots t 10).cast nbuf0_10)

/-- Input 0's buffer holds its block before the body, at every point. -/
theorem before_0 (c : Dev nD) (t : Fin cfg0.N) (d) : (projData m 0 c).before 0 t d = iblk m c 0 t :=
  ((projData m 0 c).before_in_eq_fetched 0 rfl (fun _ => rfl) (fun _ _ _ => rfl)
    (fun t => by rw [show (projData m 0 c).after 0 t = iblk m c 0 t from by dsimp only [projData]]; unfold Dat.blockOf iblk; rw [projData_A]; try rfl) t d).trans
    (by unfold Dat.fetched Dat.blockOf iblk; rw [projData_A]; try rfl)
/-- Input 1's buffer holds its block before the body, at every point. -/
theorem before_1 (c : Dev nD) (t : Fin cfg0.N) (d) : (projData m 0 c).before 1 t d = iblk m c 1 t :=
  ((projData m 0 c).before_in_eq_fetched 1 rfl (fun _ => rfl) (fun _ _ _ => rfl)
    (fun t => by rw [show (projData m 0 c).after 1 t = iblk m c 1 t from by dsimp only [projData]]; unfold Dat.blockOf iblk; rw [projData_A]; try rfl) t d).trans
    (by unfold Dat.fetched Dat.blockOf iblk; rw [projData_A]; try rfl)
/-- Input 2's buffer holds its block before the body, at every point. -/
theorem before_2 (c : Dev nD) (t : Fin cfg0.N) (d) : (projData m 0 c).before 2 t d = iblk m c 2 t :=
  ((projData m 0 c).before_in_eq_fetched 2 rfl (fun _ => rfl) (fun _ _ _ => rfl)
    (fun t => by rw [show (projData m 0 c).after 2 t = iblk m c 2 t from by dsimp only [projData]]; unfold Dat.blockOf iblk; rw [projData_A]; try rfl) t d).trans
    (by unfold Dat.fetched Dat.blockOf iblk; rw [projData_A]; try rfl)
/-- Input 3's buffer holds its block before the body, at every point. -/
theorem before_3 (c : Dev nD) (t : Fin cfg0.N) (d) : (projData m 0 c).before 3 t d = iblk m c 3 t :=
  ((projData m 0 c).before_in_eq_fetched 3 rfl (fun _ => rfl) (fun _ _ _ => rfl)
    (fun t => by rw [show (projData m 0 c).after 3 t = iblk m c 3 t from by dsimp only [projData]]; unfold Dat.blockOf iblk; rw [projData_A]; try rfl) t d).trans
    (by unfold Dat.fetched Dat.blockOf iblk; rw [projData_A]; try rfl)
/-- Input 4's buffer holds its block before the body, at every point. -/
theorem before_4 (c : Dev nD) (t : Fin cfg0.N) (d) : (projData m 0 c).before 4 t d = iblk m c 4 t :=
  ((projData m 0 c).before_in_eq_fetched 4 rfl (fun _ => rfl) (fun _ _ _ => rfl)
    (fun t => by rw [show (projData m 0 c).after 4 t = iblk m c 4 t from by dsimp only [projData]]; unfold Dat.blockOf iblk; rw [projData_A]; try rfl) t d).trans
    (by unfold Dat.fetched Dat.blockOf iblk; rw [projData_A]; try rfl)
/-- Input 5's buffer holds its block before the body, at every point. -/
theorem before_5 (c : Dev nD) (t : Fin cfg0.N) (d) : (projData m 0 c).before 5 t d = iblk m c 5 t :=
  ((projData m 0 c).before_in_eq_fetched 5 rfl (fun _ => rfl) (fun _ _ _ => rfl)
    (fun t => by rw [show (projData m 0 c).after 5 t = iblk m c 5 t from by dsimp only [projData]]; unfold Dat.blockOf iblk; rw [projData_A]; try rfl) t d).trans
    (by unfold Dat.fetched Dat.blockOf iblk; rw [projData_A]; try rfl)
/-- Input 6's buffer holds its block before the body, at every point. -/
theorem before_6 (c : Dev nD) (t : Fin cfg0.N) (d) : (projData m 0 c).before 6 t d = iblk m c 6 t :=
  ((projData m 0 c).before_in_eq_fetched 6 rfl (fun _ => rfl) (fun _ _ _ => rfl)
    (fun t => by rw [show (projData m 0 c).after 6 t = iblk m c 6 t from by dsimp only [projData]]; unfold Dat.blockOf iblk; rw [projData_A]; try rfl) t d).trans
    (by unfold Dat.fetched Dat.blockOf iblk; rw [projData_A]; try rfl)
/-- Input 7's buffer holds its block before the body, at every point. -/
theorem before_7 (c : Dev nD) (t : Fin cfg0.N) (d) : (projData m 0 c).before 7 t d = iblk m c 7 t :=
  ((projData m 0 c).before_in_eq_fetched 7 rfl (fun _ => rfl) (fun _ _ _ => rfl)
    (fun t => by rw [show (projData m 0 c).after 7 t = iblk m c 7 t from by dsimp only [projData]]; unfold Dat.blockOf iblk; rw [projData_A]; try rfl) t d).trans
    (by unfold Dat.fetched Dat.blockOf iblk; rw [projData_A]; try rfl)

/-- What the body is called with at point `t`. -/
def pointPre (c : Dev nD) (t : Fin cfg0.N) : sProp 𝕄 :=
  iprop((projData m 0 c).Φ t.castSucc ∗ (projData m 0 c).owesAt () t.castSucc
    ∗ (∃ d, owns (c : Thread nD τ) (at0 t) fullShare ((projData m 0 c).before 0 t d))
    ∗ (∃ d, owns (c : Thread nD τ) (at1 t) fullShare ((projData m 0 c).before 1 t d))
    ∗ (∃ d, owns (c : Thread nD τ) (at2 t) fullShare ((projData m 0 c).before 2 t d))
    ∗ (∃ d, owns (c : Thread nD τ) (at3 t) fullShare ((projData m 0 c).before 3 t d))
    ∗ (∃ d, owns (c : Thread nD τ) (at4 t) fullShare ((projData m 0 c).before 4 t d))
    ∗ (∃ d, owns (c : Thread nD τ) (at5 t) fullShare ((projData m 0 c).before 5 t d))
    ∗ (∃ d, owns (c : Thread nD τ) (at6 t) fullShare ((projData m 0 c).before 6 t d))
    ∗ (∃ d, owns (c : Thread nD τ) (at7 t) fullShare ((projData m 0 c).before 7 t d))
    ∗ (∃ d, owns (c : Thread nD τ) (at8 t) fullShare d)
    ∗ (∃ d, owns (c : Thread nD τ) (at9 t) fullShare ((projData m 0 c).before 9 t d))
    ∗ (∃ d, owns (c : Thread nD τ) (at10 t) fullShare d))

/-- What it gives back. -/
def pointPost (c : Dev nD) (t : Fin cfg0.N) : sProp 𝕄 :=
  iprop((projData m 0 c).Φ t.succ ∗ (projData m 0 c).owesAt () t.succ
    ∗ owns (c : Thread nD τ) (at0 t) fullShare ((projData m 0 c).after 0 t)
    ∗ owns (c : Thread nD τ) (at1 t) fullShare ((projData m 0 c).after 1 t)
    ∗ owns (c : Thread nD τ) (at2 t) fullShare ((projData m 0 c).after 2 t)
    ∗ owns (c : Thread nD τ) (at3 t) fullShare ((projData m 0 c).after 3 t)
    ∗ owns (c : Thread nD τ) (at4 t) fullShare ((projData m 0 c).after 4 t)
    ∗ owns (c : Thread nD τ) (at5 t) fullShare ((projData m 0 c).after 5 t)
    ∗ owns (c : Thread nD τ) (at6 t) fullShare ((projData m 0 c).after 6 t)
    ∗ owns (c : Thread nD τ) (at7 t) fullShare ((projData m 0 c).after 7 t)
    ∗ (∃ d, owns (c : Thread nD τ) (at8 t) fullShare d)
    ∗ owns (c : Thread nD τ) (at9 t) fullShare ((projData m 0 c).after 9 t)
    ∗ (∃ d, owns (c : Thread nD τ) (at10 t) fullShare d))

/-- The body fills the weight buffer at the first point and at no other. -/
theorem first_iff : ∀ t : Fin cfg0.N, first (grid0.coords t) ↔ t.val = 0 :=
  (by decide +kernel : ∀ t : Fin grid0.N, first (grid0.coords t) ↔ t.val = 0)

/-- What the tiles of a point hold, as memory cells. -/
abbrev Cells (c : Dev nD) (t : Fin cfg0.N) (f0 : BufTy.Contents (Elt F) (at0 t).view.ty) (f1 : BufTy.Contents (Elt F) (at1 t).view.ty) (f2 : BufTy.Contents (Elt F) (at2 t).view.ty) (f3 : BufTy.Contents (Elt F) (at3 t).view.ty) (f4 : BufTy.Contents (Elt F) (at4 t).view.ty) (f5 : BufTy.Contents (Elt F) (at5 t).view.ty) (f6 : BufTy.Contents (Elt F) (at6 t).view.ty) (f7 : BufTy.Contents (Elt F) (at7 t).view.ty) (f8 : BufTy.Contents (Elt F) (at8 t).view.ty) (f9 : BufTy.Contents (Elt F) (at9 t).view.ty) (f10 : BufTy.Contents (Elt F) (at10 t).view.ty) (fw : Buf (Elt F) (wVmem.view.loc (c : Thread nD τ))) : sProp 𝕄 :=
  RestState (F := F) c (at0 t) (at1 t) (at2 t) (at3 t) (at4 t) (at5 t) (at6 t) (at7 t) (at8 t) (at9 t) (at10 t) f0 f1 f2 f3 f4 f5 f6 f7 f8 f9 f10 fw

/-- The rest of the body at a point whose inputs hold their blocks and whose weight buffer is filled. -/
theorem rest_point (c : Dev nD) (t : Fin cfg0.N) (f0 : BufTy.Contents (Elt F) (at0 t).view.ty) (f1 : BufTy.Contents (Elt F) (at1 t).view.ty) (f2 : BufTy.Contents (Elt F) (at2 t).view.ty) (f3 : BufTy.Contents (Elt F) (at3 t).view.ty) (f4 : BufTy.Contents (Elt F) (at4 t).view.ty) (f5 : BufTy.Contents (Elt F) (at5 t).view.ty) (f6 : BufTy.Contents (Elt F) (at6 t).view.ty) (f7 : BufTy.Contents (Elt F) (at7 t).view.ty) (f8 : BufTy.Contents (Elt F) (at8 t).view.ty) (f9 : BufTy.Contents (Elt F) (at9 t).view.ty) (f10 : BufTy.Contents (Elt F) (at10 t).view.ty) (fw : Buf (Elt F) (wVmem.view.loc (c : Thread nD τ)))
    (h0 : (at0 t).view.read (Elt F) f0 = iblk m c 0 t) (h1 : (at1 t).view.read (Elt F) f1 = iblk m c 1 t) (h2 : (at2 t).view.read (Elt F) f2 = iblk m c 2 t) (h3 : (at3 t).view.read (Elt F) f3 = iblk m c 3 t) (h4 : (at4 t).view.read (Elt F) f4 = iblk m c 4 t) (h5 : (at5 t).view.read (Elt F) f5 = iblk m c 5 t) (h6 : (at6 t).view.read (Elt F) f6 = iblk m c 6 t) (h7 : (at7 t).view.read (Elt F) f7 = iblk m c 7 t) (hw : wVmem.view.read (Elt F) fw = narrow c (V m c main_arg2)) :
    Cells c t f0 f1 f2 f3 f4 f5 f6 f7 f8 f9 f10 fw
      ⊢ wp frame (wpE (defs₀ (F := F)) Variants.none c none) Set.univ (rest (F := F) (grid0.coords t) (at0 t) (at0_whole t) (at1 t) (at1_whole t) (at2 t) (at2_whole t) (at3 t) (at3_whole t) (at4 t) (at4_whole t) (at5 t) (at5_whole t) (at6 t) (at6_whole t) (at7 t) (at7_whole t) (at8 t) (at8_whole t) (at9 t) (at9_whole t) (at10 t) (at10_whole t))
        (fun _ => iprop(heldAt c wVmem fw
          ∗ owns (c : Thread nD τ) (at0 t) fullShare (iblk m c 0 t)
          ∗ owns (c : Thread nD τ) (at1 t) fullShare (iblk m c 1 t)
          ∗ owns (c : Thread nD τ) (at2 t) fullShare (iblk m c 2 t)
          ∗ owns (c : Thread nD τ) (at3 t) fullShare (iblk m c 3 t)
          ∗ owns (c : Thread nD τ) (at4 t) fullShare (iblk m c 4 t)
          ∗ owns (c : Thread nD τ) (at5 t) fullShare (iblk m c 5 t)
          ∗ owns (c : Thread nD τ) (at6 t) fullShare (iblk m c 6 t)
          ∗ owns (c : Thread nD τ) (at7 t) fullShare (iblk m c 7 t)
          ∗ (∃ d, owns (c : Thread nD τ) (at8 t) fullShare d)
          ∗ owns (c : Thread nD τ) (at9 t) fullShare (tileAt m c t)
          ∗ (∃ d, owns (c : Thread nD τ) (at10 t) fullShare d))) := by
  iintro HC
  iapply wp_wand_r
  isplitl [HC]
  · iapply (restRun (F := F) (grid0.coords t) c (at0 t) (at0_whole t) (at1 t) (at1_whole t) (at2 t) (at2_whole t) (at3 t) (at3_whole t) (at4 t) (at4_whole t) (at5 t) (at5_whole t) (at6 t) (at6_whole t) (at7 t) (at7_whole t) (at8 t) (at8_whole t) (at9 t) (at9_whole t) (at10 t) (at10_whole t) f0 f1 f2 f3 f4 f5 f6 f7 f8 f9 f10 fw).2
    iexact HC
  iintro %v ⟨H0, H1, H2, H3, H4, H5, H6, H7, H8, H9, H10, HW⟩
  unfold owns
  isplitl [HW]; · iexact HW
  isplitl [H0]; · iexists f0; isplitr; (swap; · iexact H0); ipureintro; exact h0
  isplitl [H1]; · iexists f1; isplitr; (swap; · iexact H1); ipureintro; exact h1
  isplitl [H2]; · iexists f2; isplitr; (swap; · iexact H2); ipureintro; exact h2
  isplitl [H3]; · iexists f3; isplitr; (swap; · iexact H3); ipureintro; exact h3
  isplitl [H4]; · iexists f4; isplitr; (swap; · iexact H4); ipureintro; exact h4
  isplitl [H5]; · iexists f5; isplitr; (swap; · iexact H5); ipureintro; exact h5
  isplitl [H6]; · iexists f6; isplitr; (swap; · iexact H6); ipureintro; exact h6
  isplitl [H7]; · iexists f7; isplitr; (swap; · iexact H7); ipureintro; exact h7
  isplitl [H8]; · iexists _; iexists _; isplitr; (swap; · iexact H8); ipureintro; rfl
  isplitl [H9]
  · iexists _; isplitr; (swap; · iexact H9); ipureintro
    rw [restRun_read, hw, h0, h1, h2]; rfl
  iexists _; iexists _; isplitr; (swap; · iexact H10); ipureintro; rfl

set_option maxHeartbeats 1600000 in
/-- The body at any point. -/
theorem point (c : Dev nD) (t : Fin cfg0.N) :
    pointPre m c t ⊢ wp frame (wpE (defs₀ (F := F)) Variants.none c none) Set.univ (bodyAt0 t) (fun _ => pointPost m c t) := by
  unfold pointPre pointPost
  simp only [before_0, before_1, before_2, before_3, before_4, before_5, before_6, before_7]
  rw [show (projData m 0 c).Φ t.castSucc = between m c t.val from rfl,
    show (projData m 0 c).Φ t.succ = between m c (t.val + 1) from rfl,
    show (projData m 0 c).owesAt () t.succ = (projData m 0 c).owesAt () t.castSucc from rfl]
  rw [show (projData m 0 c).after 0 t = iblk m c 0 t from by dsimp only [projData]]
  rw [show (projData m 0 c).after 1 t = iblk m c 1 t from by dsimp only [projData]]
  rw [show (projData m 0 c).after 2 t = iblk m c 2 t from by dsimp only [projData]]
  rw [show (projData m 0 c).after 3 t = iblk m c 3 t from by dsimp only [projData]]
  rw [show (projData m 0 c).after 4 t = iblk m c 4 t from by dsimp only [projData]]
  rw [show (projData m 0 c).after 5 t = iblk m c 5 t from by dsimp only [projData]]
  rw [show (projData m 0 c).after 6 t = iblk m c 6 t from by dsimp only [projData]]
  rw [show (projData m 0 c).after 7 t = iblk m c 7 t from by dsimp only [projData]]
  rw [show (projData m 0 c).after 9 t = tileAt m c t from by dsimp only [projData]]
  unfold between Dat.owesAt Pipeline.owesWithin
  rw [show (projData m 0 c).owed t.castSucc = 0 from rfl]
  unfold owns
  iintro ⟨⟨⟨⟨%fw, %hfw, HW⟩, ⟨%fs, HS⟩⟩, Hg, Hq, Hh⟩, ⟨%W, %hW, HO⟩, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%d9, %f9, %h9, H9⟩, ⟨%d10, %f10, %h10, H10⟩⟩
  by_cases ht : t.val = 0
  · rw [show bodyAt0 (F := F) t = _ from body_first (grid0.coords t) (at0 t) (at0_whole t) (at1 t) (at1_whole t) (at2 t) (at2_whole t) (at3 t) (at3_whole t) (at4 t) (at4_whole t) (at5 t) (at5_whole t) (at6 t) (at6_whole t) (at7 t) (at7_whole t) (at8 t) (at8_whole t) (at9 t) (at9_whole t) (at10 t) (at10_whole t) ((first_iff t).mpr ht), wp_bind]
    have hw := fillRun_read (F := F) (grid0.coords t) c (at0 t) (at0_whole t) (at1 t) (at1_whole t) (at2 t) (at2_whole t) (at3 t) (at3_whole t) (at4 t) (at4_whole t) (at5 t) (at5_whole t) (at6 t) (at6_whole t) (at7 t) (at7_whole t) (at8 t) (at8_whole t) (at9 t) (at9_whole t) (at10 t) (at10_whole t) (V m c main_arg2) fw fs
    iapply wp_wand_r
    isplitl [HW HS Hq Hh HO]
    · iapply ((fillRun (F := F) (grid0.coords t) c (at0 t) (at0_whole t) (at1 t) (at1_whole t) (at2 t) (at2_whole t) (at3 t) (at3_whole t) (at4 t) (at4_whole t) (at5 t) (at5_whole t) (at6 t) (at6_whole t) (at7 t) (at7_whole t) (at8 t) (at8_whole t) (at9 t) (at9_whole t) (at10 t) (at10_whole t) (V m c main_arg2) fw fs).2 W)
      isplitl [HW]; · iexact HW
      isplitl [HS]; · iexact HS
      isplitl [Hq]; · iexact Hq
      isplitl [Hh]; · iexact Hh
      iexact HO
    iintro %u ⟨HW, HS, Hq, Hh, ⟨%W', HO⟩⟩
    iapply wp_wand_r
    isplitl [HW H0 H1 H2 H3 H4 H5 H6 H7 H8 H9 H10]
    · iapply (rest_point m c t f0 f1 f2 f3 f4 f5 f6 f7 f8 f9 f10 _ h0 h1 h2 h3 h4 h5 h6 h7 hw)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact HW
    iintro %v ⟨HW, H0, H1, H2, H3, H4, H5, H6, H7, H8, H9, H10⟩
    unfold owns
    isplitl [HW HS Hg Hq Hh]
    · isplitl [HW HS]
      · isplitl [HW]
        · iexists _; isplitr; (swap; · iexact HW); ipureintro; exact .inr hw
        iexact HS
      isplitl [Hg]; · iexact Hg
      isplitl [Hq]; · iexact Hq
      iexact Hh
    isplitl [HO]
    · iexists _; isplitr; (swap; · iexact HO); ipureintro; exact fun _ _ => Or.inl trivial
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [show bodyAt0 (F := F) t = _ from body_later (grid0.coords t) (at0 t) (at0_whole t) (at1 t) (at1_whole t) (at2 t) (at2_whole t) (at3 t) (at3_whole t) (at4 t) (at4_whole t) (at5 t) (at5_whole t) (at6 t) (at6_whole t) (at7 t) (at7_whole t) (at8 t) (at8_whole t) (at9 t) (at9_whole t) (at10 t) (at10_whole t) (fun h => ht ((first_iff t).mp h))]
    have hw := hfw.resolve_left ht
    iapply wp_wand_r
    isplitl [HW H0 H1 H2 H3 H4 H5 H6 H7 H8 H9 H10]
    · iapply (rest_point m c t f0 f1 f2 f3 f4 f5 f6 f7 f8 f9 f10 _ h0 h1 h2 h3 h4 h5 h6 h7 hw)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact HW
    iintro %v ⟨HW, H0, H1, H2, H3, H4, H5, H6, H7, H8, H9, H10⟩
    unfold owns
    isplitl [HW HS Hg Hq Hh]
    · isplitl [HW HS]
      · isplitl [HW]
        · iexists _; isplitr; (swap; · iexact HW); ipureintro; exact .inr hw
        iexists fs; iexact HS
      isplitl [Hg]; · iexact Hg
      isplitl [Hq]; · iexact Hq
      iexact Hh
    isplitl [HO]
    · iexists _; isplitr; (swap; · iexact HO); ipureintro; exact fun _ _ => Or.inl trivial
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body table's row at a point. -/
theorem row_eq (t : Fin cfg0.N) : defs₀ (F := F) .tc cfg0.body (cfg0.bodyArgs t (cfg0.slots t)) = bodyAt0 t := by
  unfold defs₀; rw [Defs.onTc_tc]

/-- The obligation of the body at every point. -/
theorem obligation (c : Dev nD) : BodyObligation (projData (F := F) m 0 c) (defs₀ (F := F)) Variants.none () Set.univ openWindow := fun t => by
  rw [bigSep_W0, bigSep_W0, row_eq]
  exact triple_restated (point m c t) rfl .rfl fun _ => .rfl

/-- The host code up to the call. -/
theorem host (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

set_option backward.isDefEq.respectTransparency.types false in
/-- The launch runs to the end, every semaphore at zero. -/
theorem launch : θ_run defs (onTc (τ := τ) (main (F := F))) (s₀ m ρ)
    (fun r => Pipeline.RDat.FramePost (cfgs 0) (fun c => (projData m 0 c).toRForget openWindow) (V m) r ∧ r.2.sem = fun _ => 0) :=
  Pipeline.θ_run_frame_dma_forget (Q' := _) cfgs (projData m) (0 : Fin 1) launch0 cells defs₀ Variants.none openWindow cells_facts left left_sub m ρ main
    (hbody := fun c => (obligation m c).loose) (hshare := fun c => (projData m 0 c).share_full fun _ => rfl)
    (howed := fun _ _ => rfl) (V := V m) (hmain := host m Variants.none) (hA := projData_A m)
    (hin := between_in m) (hout := fun c => between_out m c _)

/-- The input projection runs from any memory: its arguments end unchanged, its bf16 array holds the tiles written back, every
    semaphore is at zero again. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((cfg0.win 9).arr.view.loc (c.tc : Thread nD τ)) = (projData m 0 c).arrAt 9 cfg0.N)
      ∧ r.2.sem = fun _ => 0) :=
  (θ_run defs _ _).mono (fun _ h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((projData m 0 c).toRForget_arrAt_iff (fgt := openWindow) (w := 9) rfl cfg0.N _).mp ((h.1 c).1 9)⟩, h.2⟩) (launch m ρ)

/-- Of that run, what does not speak of the array. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => have ⟨a0, a1, a2, a3, a4, a5, a6, a7, _⟩ := h.1 c
    ⟨a0, a1, a2, a3, a4, a5, a6, a7⟩, h.2⟩) (run_main m ρ)

end Cert.Proof.InProj

end
-- ==== Proof.InRow.lean ====
/-
  What the input projection computes of ONE TOKEN, over the extended reals: the token's row, normalised by its root mean square,
  through the columns of the weights that are the merge gates (with their bias) and the two side gates.
-/
module

public import proofs.«01_k».proof.Defs
public import Idealize.ShloMosaic.Lib.Pointwise

@[expose] public section

noncomputable section

namespace Cert.InRow

open Idealize.ShloMosaic

/-- The token's row over the root of its mean square, times the norm's weights. -/
def norm (g x : Fin 1024 → EReal) (k : Fin 1024) : EReal :=
  x k * Ideal.rsqrt (Ideal.div (∑ j : Fin 1024, x j * x j) (Ideal.ofBits .f32 0x44800000#32) + Ideal.ofBits .f32 0x358637BD#32) * g k

/-- The normalised row through column `j` of the weights. -/
def col (g x : Fin 1024 → EReal) (w : Fin 1024 → Fin 6144 → EReal) (j : Fin 6144) : EReal :=
  ∑ k : Fin 1024, norm g x k * w k j

/-- The token's row of the result: merge gates with bias, state-space side gate, attention side gate. -/
def out (g x : Fin 1024 → EReal) (w : Fin 1024 → Fin 6144 → EReal) (b : Fin 2048 → EReal) (l : Fin 3072) : EReal :=
  if h : l.val < 2048 then col g x w ⟨4096 + l.val, by omega⟩ + b ⟨l.val, h⟩
  else if l.val < 2560 then col g x w ⟨512 + (l.val - 2048), by omega⟩
  else col g x w ⟨3584 + (l.val - 2560), by omega⟩

end Cert.InRow

end
-- ==== Proof.InReference.lean ====
/-
  The reference of the input projection, read at an index of its result: row `b * 2048 + t`, column `l` is `InRow.out` of the
  arguments' row at token `(b, t)`.
-/
module

public import proofs.«01_k».proof.Proof.InRow
public import proofs.«01_k».proof.Proof.Gen.InProjReferenceIdeal.Run

@[expose] public section

set_option maxRecDepth 16384

noncomputable section

namespace Cert.InReference

open Idealize.ShloMosaic Idealize.SL.Sem Cert.InProjReferenceIdeal Cert.InProjReferenceIdeal.Gen

local notation "A" s:max => FVec Ideal s FTy.f32

/-- The normalised tokens. -/
def normArr (x : A S8x2048x1024) (g : A S1x1024) : A S8x2048x1024 :=
  mulf (mulf x (broadcastInDim S8x2048x1024 ![0, 1, 2] bcast_S8x2048x1_S8x2048x1024_0_1_2
      (Host.rsqrt (addf (Host.divf (broadcastInDim S8x2048x1 ![0, 1] bcast_S8x2048_S8x2048x1_0_1
            (Host.reduceAdd (mulf x x) (constant S_ .f32 0x00000000#32) reducesTo_S8x2048x1024_S8x2048_d2 h_S_ : A S8x2048))
          (broadcastInDim S8x2048x1 ![] bcast_S_S8x2048x1 (constant S_ .f32 0x44800000#32)))
        (broadcastInDim S8x2048x1 ![] bcast_S_S8x2048x1 (constant S_ .f32 0x358637BD#32))))))
    (broadcastInDim S8x2048x1024 ![0, 1, 2] bcast_S1x1x1024_S8x2048x1024_0_1_2
      (broadcastInDim S1x1x1024 ![2] bcast_S1024_S1x1x1024_2 (shapeCast S1024 g shapeCasts_S1x1024_S1024 : A S1024)))

/-- Their projection. -/
def projArr (x : A S8x2048x1024) (g : A S1x1024) (w : A S1x1024x6144) : A S8x2048x6144 :=
  Host.dotGeneral dot_S8x2048x1024_S1024x6144_S8x2048x6144_2_0_01_1_n_n none (normArr x g)
    (shapeCast S1024x6144 w shapeCasts_S1x1024x6144_S1024x6144 : A S1024x6144)

/-- The merge gates with their bias. -/
def gateArr (p : A S8x2048x6144) (b : A S1x2048) : A S8x2048x2048 :=
  addf (extractStridedSlice S8x2048x2048 ![0, 0, 4096] p slices_S8x2048x6144_S8x2048x2048_0_0_4096)
    (broadcastInDim S8x2048x2048 ![0, 1, 2] bcast_S1x1x2048_S8x2048x2048_0_1_2
      (broadcastInDim S1x1x2048 ![2] bcast_S2048_S1x1x2048_2 (shapeCast S2048 b shapeCasts_S1x2048_S2048 : A S2048)))

/-- The three groups of columns side by side. -/
def sideArr (p : A S8x2048x6144) (b : A S1x2048) : A S8x2048x3072 :=
  concatenate S8x2048x3072 2 [⟨S8x2048x2048, gateArr p b⟩,
    ⟨S8x2048x512, extractStridedSlice S8x2048x512 ![0, 0, 512] p slices_S8x2048x6144_S8x2048x512_0_0_512⟩,
    ⟨S8x2048x512, extractStridedSlice S8x2048x512 ![0, 0, 3584] p slices_S8x2048x6144_S8x2048x512_0_0_3584⟩]
    concatenates_S8x2048x2048_S8x2048x512_S8x2048x512_S8x2048x3072_d2

/-- The result. -/
def outArr (x : A S8x2048x1024) (g : A S1x1024) (w : A S1x1024x6144) (b : A S1x2048) : FVec Ideal S16384x3072 .bf16 :=
  truncf .bf16 (shapeCast S16384x3072 (sideArr (projArr x g w) b) shapeCasts_S8x2048x3072_S16384x3072 : A S16384x3072) bitsLt_bf16_f32

/-- The normalised tokens, read at an index. -/
theorem normArr_apply (x : A S8x2048x1024) (g : A S1x1024) (b : Fin 8) (t : Fin 2048) (k : Fin 1024) :
    normArr x g (ix3 b t k) = InRow.norm (fun k => g (ix2 0 k)) (fun k => x (ix3 b t k)) k := by
  unfold normArr InRow.norm; pointwise

/-- Their projection, read at an index. -/
theorem projArr_apply (x : A S8x2048x1024) (g : A S1x1024) (w : A S1x1024x6144) (b : Fin 8) (t : Fin 2048) (j : Fin 6144) :
    projArr x g w (ix3 b t j)
      = InRow.col (fun k => g (ix2 0 k)) (fun k => x (ix3 b t k)) (fun k j => w (ix3 0 k j)) j := by
  unfold projArr InRow.col; pointwise [normArr_apply]

/-- The merge gates, read at an index. -/
theorem gateArr_apply (p : A S8x2048x6144) (u : A S1x2048) (b : Fin 8) (t : Fin 2048) (l : Fin 2048) :
    gateArr p u (ix3 b t l) = p (ix3 b t ⟨4096 + l.val, by omega⟩) + u (ix2 0 l) := by
  unfold gateArr; pointwise

/-- The columns side by side, read at an index. -/
theorem sideArr_apply (p : A S8x2048x6144) (u : A S1x2048) (b : Fin 8) (t : Fin 2048) (l : Fin 3072) :
    sideArr p u (ix3 b t l)
      = if h : l.val < 2048 then p (ix3 b t ⟨4096 + l.val, by omega⟩) + u (ix2 0 ⟨l.val, h⟩)
        else if l.val < 2560 then p (ix3 b t ⟨512 + (l.val - 2048), by omega⟩)
        else p (ix3 b t ⟨3584 + (l.val - 2560), by omega⟩) := by
  have key : ∀ (a a' : Fin 6144), a.val = a'.val → p (ix3 b t a) = p (ix3 b t a') := fun a a' h => by rw [Fin.ext h]
  unfold sideArr
  pointwise [gateArr_apply]
  split
  · rfl
  split
  · exact (if_pos (by omega)).symm
  · exact (key _ _ (by show 3584 + (l.val - 2048 - 512) = 3584 + (l.val - 2560); omega)).trans (if_neg (by omega)).symm

/-- The result, read at an index. -/
theorem outArr_apply (x : A S8x2048x1024) (g : A S1x1024) (w : A S1x1024x6144) (u : A S1x2048) (b : Fin 8) (t : Fin 2048)
    (l : Fin 3072) :
    outArr x g w u (ix2 ⟨b * 2048 + t, by omega⟩ l)
      = InRow.out (fun k => g (ix2 0 k)) (fun k => x (ix3 b t k)) (fun k j => w (ix3 0 k j)) (fun l => u (ix2 0 l)) l := by
  have h : outArr x g w u (ix2 ⟨b * 2048 + t, by omega⟩ l) = sideArr (projArr x g w) u (ix3 b t l) := by
    unfold outArr; pointwise
  rw [h, sideArr_apply]
  unfold InRow.out
  simp only [projArr_apply]

end Cert.InReference

end
-- ==== Proof.InArray.lean ====
/-
  The input projection's bf16 array over the ideal reals: the values the body computes at an index, its input blocks as rows of the
  arguments, each tile written back as its block of the reference's array, and the tiles covering it.
-/
module

public import proofs.«01_k».proof.Proof.InFrame
public import proofs.«01_k».proof.Proof.InReference
public import Idealize.ShloMosaic.Lib.Pipeline.Value

@[expose] public section

set_option maxRecDepth 16384

noncomputable section

namespace Cert.InArray

open Idealize.ShloMosaic Idealize.SL.Sem Cert.InProjIdeal Cert.InProjIdeal.Gen Cert.Proof.InProj
open Idealize.ShloMosaic.TcCoe

local notation "A" s:max => FVec Ideal s FTy.f32

variable (m : (ℓ : Loc nD τ sig) → Buf (Elt Ideal) ℓ)

/-! ## The body's values at an index -/

/-- The normalised rows. -/
theorem normed_apply (x : Vec Ideal S512x1024 .f32) (g : Vec Ideal S1x1024 .f32) (r : Fin 512) (k : Fin 1024) :
    k0_pay26 x g (ix2 r k) = InRow.norm (fun k => g (ix2 0 k)) (fun k => x (ix2 r k)) k := by
  unfold k0_pay26 InRow.norm; pointwise

/-- A block of merge gates. -/
theorem gate_apply (n : FVec Ideal S512x1024 .bf16) (w : Vec Ideal S1024x512 .bf16) (b : Vec Ideal S1x512 .f32) (r j : Fin 512) :
    k0_pay1 n w b (ix2 r j) = (∑ k : Fin 1024, n (ix2 r k) * w (ix2 k j) : EReal) + b (ix2 0 j) := by
  unfold k0_pay1; pointwise

/-- A side gate. -/
theorem side_apply (n : FVec Ideal S512x1024 .bf16) (w : Vec Ideal S1024x512 .bf16) (r j : Fin 512) :
    k0_pay44 n w (ix2 r j) = (∑ k : Fin 1024, n (ix2 r k) * w (ix2 k j) : EReal) := by
  unfold k0_pay44; pointwise

/-- A row of the tile is `InRow.out` of that row of the inputs. -/
theorem tile_row (x : Vec Ideal S512x1024 .f32) (g : Vec Ideal S1x1024 .f32) (w : S1024x6144.Idx → Elt Ideal .bf16)
    (b : S1x2048.Idx → Elt Ideal .f32) (r : Fin 512) (l : Fin 3072) :
    tile (k0_pay26 x g) w b (ix2 r l)
      = InRow.out (fun k => g (ix2 0 k)) (fun k => x (ix2 r k)) (fun k j => w (ix2 k j)) (fun l => b (ix2 0 l)) l := by
  have key : ∀ (k : Fin 1024) (a a' : Fin 6144), a.val = a'.val → w (ix2 k a) = w (ix2 k a') := fun k a a' h => by rw [Fin.ext h]
  have keyb : ∀ (a a' : Fin 2048), a.val = a'.val → b (ix2 0 a) = b (ix2 0 a') := fun a a' h => by rw [Fin.ext h]
  have hl := l.isLt
  unfold tile InRow.out
  show (if l.val < 2048 then _ else _) = _
  by_cases h : l.val < 2048
  · rw [if_pos h, dif_pos h]
    refine (gate_apply _ _ _ _ _).trans ?_
    refine congrArg₂ (· + ·) (Finset.sum_congr rfl fun k _ => congrArg₂ (· * ·) (normed_apply x g r k) (key k _ _ ?_)) (keyb _ _ ?_)
    · show (4096 + 512 * (l.val / 512) + l.val % 512) % 6144 = 4096 + l.val
      omega
    · show (512 * (l.val / 512) + l.val % 512) % 2048 = l.val
      omega
  rw [if_neg h, dif_neg h]
  have side : ∀ (o : ℕ) (j : Fin 6144), (o + l.val % 512) % 6144 = j.val →
      k0_pay44 (k0_pay26 x g) (slab w o) (ix2 r ⟨l.val % 512, Nat.mod_lt _ (by decide)⟩)
        = InRow.col (fun k => g (ix2 0 k)) (fun k => x (ix2 r k)) (fun k j => w (ix2 k j)) j := fun o j e =>
    (side_apply _ _ _ _).trans
      (Finset.sum_congr rfl fun k _ => congrArg₂ (· * ·) (normed_apply x g r k) (key k _ _ e))
  by_cases h2 : l.val < 2560
  · rw [if_pos h2]
    refine Eq.trans ?_ (side 512 _ (by show (512 + l.val % 512) % 6144 = 512 + (l.val - 2048); omega))
    exact congrArg (fun o => k0_pay44 (k0_pay26 x g) (slab w o) (ix2 r ⟨l.val % 512, Nat.mod_lt _ (by decide)⟩)) (if_pos h2)
  · rw [if_neg h2]
    refine Eq.trans ?_ (side 3584 _ (by show (3584 + l.val % 512) % 6144 = 3584 + (l.val - 2560); omega))
    exact congrArg (fun o => k0_pay44 (k0_pay26 x g) (slab w o) (ix2 r ⟨l.val % 512, Nat.mod_lt _ (by decide)⟩)) (if_neg h2)

/-! ## What the host code computes for the call's operands -/

/-- The tokens' rows, batch and time merged. -/
theorem V_v0 (c : Dev nD) : (V m c main_v0 : A S16384x1024)
    = shapeCast S16384x1024 (m ((c : Thread nD τ).loc main_arg0) : A S8x2048x1024) shapeCasts_S8x2048x1024_S16384x1024 := by
  rfl

/-- The norm's weights. -/
theorem V_v31 (c : Dev nD) : (V m c main_v31 : A S1x1024)
    = broadcastInDim S1x1024 ![1] bcast_S1024_S1x1024_1
        (shapeCast S1024 (m ((c : Thread nD τ).loc main_arg1) : A S1x1024) shapeCasts_S1x1024_S1024 : A S1024) := by
  unfold V; after_results_simp; rfl

/-- The merge gates' bias. -/
theorem V_v33 (c : Dev nD) : (V m c main_v33 : A S1x2048)
    = broadcastInDim S1x2048 ![1] bcast_S2048_S1x2048_1
        (shapeCast S2048 (m ((c : Thread nD τ).loc main_arg3) : A S1x2048) shapeCasts_S1x2048_S2048 : A S2048) := by
  unfold V; after_results_simp; rfl

/-- Merging batch and time, read at an index. -/
theorem flat_apply (b : Fin 8) (t : Fin 2048) (x : A S8x2048x1024) (k : Fin 1024) :
    shapeCast S16384x1024 x shapeCasts_S8x2048x1024_S16384x1024 (ix2 ⟨b * 2048 + t, by omega⟩ k) = x (ix3 b t k) := by
  pointwise

/-- The norm's weights, read at an index. -/
theorem v31_apply (x : A S1x1024) (k : Fin 1024) : (broadcastInDim S1x1024 ![1] bcast_S1024_S1x1024_1
    (shapeCast S1024 x shapeCasts_S1x1024_S1024 : A S1024) : A S1x1024) (ix2 0 k) = x (ix2 0 k) := by
  pointwise

/-- The merge gates' bias, read at an index. -/
theorem v33_apply (x : A S1x2048) (k : Fin 2048) : (broadcastInDim S1x2048 ![1] bcast_S2048_S1x2048_1
    (shapeCast S2048 x shapeCasts_S1x2048_S2048 : A S2048) : A S1x2048) (ix2 0 k) = x (ix2 0 k) := by
  pointwise

/-! ## The points' tiles -/

/-- The number of a grid point is below 32. -/
theorem point_lt (t : Fin cfg0.N) : t.val < 32 := t.isLt.trans_eq N_0

/-- The blocks' indices: row tile `4 (t % 8) + t / 8` of the tokens and of the result; the norm's weights and the bias are whole. -/
theorem index_rows : ∀ t : Fin cfg0.N,
    (win0_0.index t 0 = t.val % 8 * 4 + t.val / 8 ∧ win0_0.index t 1 = 0)
    ∧ (win0_1.index t 0 = 0 ∧ win0_1.index t 1 = 0)
    ∧ (win0_2.index t 0 = 0 ∧ win0_2.index t 1 = 0)
    ∧ (win0_9.index t 0 = t.val % 8 * 4 + t.val / 8 ∧ win0_9.index t 1 = 0) :=
  (by decide +kernel : ∀ t : Fin grid0.N, _)

/-- The token of row `r` of point `t`'s tile. -/
def tok (t : Fin cfg0.N) (r : Fin 512) : Fin 2048 := ⟨t.val / 8 * 512 + r.val, by have := point_lt t; omega⟩

/-- The batch of point `t`. -/
def bat (t : Fin cfg0.N) : Fin 8 := ⟨t.val % 8, Nat.mod_lt _ (by decide)⟩

/-- The row of the arrays that row `r` of point `t`'s tile is. -/
def row (t : Fin cfg0.N) (r : Fin 512) : Fin 16384 :=
  ⟨bat t * 2048 + tok t r, by have := (bat t).isLt; have := (tok t r).isLt; omega⟩

/-- The tokens' block at a grid point, read at an index. -/
theorem iblk0 (c : Dev nD) (t : Fin cfg0.N) (r : Fin 512) (k : Fin 1024) :
    (iblk m c 0 t : Vec Ideal S512x1024 .f32) (ix2 r k) = (V m c main_v0 : A S16384x1024) (ix2 (row t r) k) := by
  obtain ⟨⟨e0, e1⟩, -⟩ := index_rows t
  refine congrArg (V m c main_v0 : A S16384x1024) (funext fun a => Fin.ext ?_)
  fin_cases a
  · show win0_0.index t 0 * 512 + 1 * r.val = t.val % 8 * 2048 + (t.val / 8 * 512 + r.val)
    rw [e0]; omega
  · show win0_0.index t 1 * 1024 + 1 * k.val = k.val
    rw [e1]; omega

/-- The block of the norm's weights is the whole array. -/
theorem iblk1 (c : Dev nD) (t : Fin cfg0.N) (k : Fin 1024) :
    (iblk m c 1 t : Vec Ideal S1x1024 .f32) (ix2 0 k) = (V m c main_v31 : A S1x1024) (ix2 0 k) := by
  obtain ⟨-, ⟨e0, e1⟩, -⟩ := index_rows t
  refine congrArg (V m c main_v31 : A S1x1024) (funext fun a => Fin.ext ?_)
  fin_cases a
  · show win0_1.index t 0 * 1 + 1 * 0 = 0
    rw [e0]
  · show win0_1.index t 1 * 1024 + 1 * k.val = k.val
    rw [e1]; omega

/-- The block of the bias is the whole array. -/
theorem iblk2 (c : Dev nD) (t : Fin cfg0.N) (k : Fin 2048) :
    (iblk m c 2 t : Vec Ideal S1x2048 .f32) (ix2 0 k) = (V m c main_v33 : A S1x2048) (ix2 0 k) := by
  obtain ⟨-, -, ⟨e0, e1⟩, -⟩ := index_rows t
  refine congrArg (V m c main_v33 : A S1x2048) (funext fun a => Fin.ext ?_)
  fin_cases a
  · show win0_2.index t 0 * 1 + 1 * 0 = 0
    rw [e0]
  · show win0_2.index t 1 * 2048 + 1 * k.val = k.val
    rw [e1]; omega

/-- The reference's array of the arguments. -/
def result (c : Dev nD) : FVec Ideal S16384x3072 .bf16 :=
  InReference.outArr (m ((c : Thread nD τ).loc main_arg0)) (m ((c : Thread nD τ).loc main_arg1))
    (m ((c : Thread nD τ).loc main_arg2)) (m ((c : Thread nD τ).loc main_arg3))

/-- The narrowed weights are the argument's. -/
theorem narrow_apply (c : Dev nD) (k : Fin 1024) (j : Fin 6144) :
    (narrow c (V m c main_arg2) (ix2 k j) : EReal) = (m ((c : Thread nD τ).loc main_arg2) : A S1x1024x6144) (ix3 0 k j) := by
  rw [V_main_arg2]; rfl

/-- A row of point `t`'s tile is the reference's row. -/
theorem tile_result (c : Dev nD) (t : Fin cfg0.N) (r : Fin 512) (l : Fin 3072) :
    tileAt m c t (ix2 r l) = result m c (ix2 (row t r) l) := by
  refine Eq.trans ?_ (InReference.outArr_apply _ _ _ _ (bat t) (tok t r) l).symm
  unfold tileAt
  refine (tile_row _ _ _ _ r l).trans ?_
  have a0 : (fun k => (iblk m c 0 t : Vec Ideal S512x1024 .f32) (ix2 r k))
      = fun k => (m ((c : Thread nD τ).loc main_arg0) : A S8x2048x1024) (ix3 (bat t) (tok t r) k) := funext fun k => by
    rw [iblk0, V_v0]; exact flat_apply _ _ _ _
  have a1 : (fun k => (iblk m c 1 t : Vec Ideal S1x1024 .f32) (ix2 0 k))
      = fun k => (m ((c : Thread nD τ).loc main_arg1) : A S1x1024) (ix2 0 k) := funext fun k => by
    rw [iblk1, V_v31]; exact v31_apply _ _
  have a2 : (fun k => (iblk m c 2 t : Vec Ideal S1x2048 .f32) (ix2 0 k))
      = fun k => (m ((c : Thread nD τ).loc main_arg3) : A S1x2048) (ix2 0 k) := funext fun k => by
    rw [iblk2, V_v33]; exact v33_apply _ _
  have a3 : (fun (k : Fin 1024) (j : Fin 6144) => (narrow c (V m c main_arg2) (ix2 k j) : EReal))
      = fun k j => (m ((c : Thread nD τ).loc main_arg2) : A S1x1024x6144) (ix3 0 k j) :=
    funext fun k => funext fun j => narrow_apply m c k j
  exact congrFun (congr (congr (congr (congrArg InRow.out a1) a0) a3) a2) l

/-! ## The array -/

/-- What point `t` writes back is its block of the reference's array. -/
theorem flushed_eq (c : Dev nD) (t : Fin cfg0.N) :
    (projData m 0 c).flushed 9 t = ((cfg0.win 9).blk t).view.read (Elt Ideal) (result m c) := by
  show (cfg0.win 9).cut (grid0.coords t) (tileAt m c t) = _
  obtain ⟨-, -, -, ⟨e0, e1⟩⟩ := index_rows t
  funext x
  have hx : x = ix2 (x 0 : Fin 512) (x 1 : Fin 3072) := funext fun a => by fin_cases a <;> rfl
  rw [hx]
  refine (tile_result m c t (x 0) (x 1)).trans ?_
  refine congrArg (result m c) (funext fun a => Fin.ext ?_)
  fin_cases a
  · show t.val % 8 * 2048 + (t.val / 8 * 512 + (x 0).val) = win0_9.index t 0 * 512 + 1 * (x 0).val
    rw [e0]; omega
  · show (x 1).val = win0_9.index t 1 * 3072 + 1 * (x 1).val
    rw [e1]; omega

/-- The result's blocks: offsets and extents. -/
theorem block_9 : ∀ t : Fin cfg0.N, win0_9.index t 0 * win0_9.size 0 = (t.val % 8 * 4 + t.val / 8) * 512
    ∧ win0_9.xsize (grid0.coords t) 0 = 512 ∧ win0_9.index t 1 * win0_9.size 1 = 0
    ∧ win0_9.xsize (grid0.coords t) 1 = 3072 :=
  (by decide +kernel : ∀ t : Fin grid0.N, _)

/-- An index of the result array is in point `t`'s block when its row is in the point's tile. -/
theorem mem_blk (t : Fin cfg0.N) (i : S16384x3072.Idx)
    (h : (t.val % 8 * 4 + t.val / 8) * 512 ≤ (i 0 : Nat) ∧ (i 0 : Nat) < (t.val % 8 * 4 + t.val / 8) * 512 + 512) :
    i ∈ ((cfg0.win 9).blk t).view.set := by
  obtain ⟨e0, x0, e1, x1⟩ := block_9 t
  show i ∈ ((View.whole main_v34_1).slice (win0_9.rect t)).set
  rw [View.set_slice_whole, Rect.mem_set_unit]
  have h1 : (i 1 : Nat) < 3072 := (i 1).isLt
  intro a
  match a with
  | ⟨0, _⟩ => show win0_9.index t 0 * win0_9.size 0 ≤ (i 0 : Nat)
                  ∧ (i 0 : Nat) < win0_9.index t 0 * win0_9.size 0 + win0_9.xsize (grid0.coords t) 0
              rw [e0, x0]; exact h
  | ⟨1, _⟩ => show win0_9.index t 1 * win0_9.size 1 ≤ (i 1 : Nat)
                  ∧ (i 1 : Nat) < win0_9.index t 1 * win0_9.size 1 + win0_9.xsize (grid0.coords t) 1
              rw [e1, x1]; omega

/-- The points' blocks cover the result array. -/
theorem cover (i : S16384x3072.Idx) :
    ∃ t : Fin cfg0.N, (cfg0.win 9).flush t = true ∧ i ∈ ((cfg0.win 9).blk t).view.set := by
  have h0 : (i 0 : Nat) < 16384 := (i 0).isLt
  have hN : cfg0.N = 32 := N_0
  have e : ((i 0 : Nat) / 512 % 4 * 8 + (i 0 : Nat) / 2048) % 8 * 4 + ((i 0 : Nat) / 512 % 4 * 8 + (i 0 : Nat) / 2048) / 8
      = (i 0 : Nat) / 512 := by
    have hq : (i 0 : Nat) / 512 < 32 := by omega
    rw [show (i 0 : Nat) / 2048 = (i 0 : Nat) / 512 / 4 by omega]
    generalize (i 0 : Nat) / 512 = q at hq ⊢
    omega
  refine ⟨⟨(i 0 : Nat) / 512 % 4 * 8 + (i 0 : Nat) / 2048, by omega⟩, flush0_9 _, mem_blk _ i ?_⟩
  show (((i 0 : Nat) / 512 % 4 * 8 + (i 0 : Nat) / 2048) % 8 * 4 + ((i 0 : Nat) / 512 % 4 * 8 + (i 0 : Nat) / 2048) / 8) * 512 ≤ _ ∧ _
  rw [e]
  omega

/-- The result array ends holding the reference's. -/
theorem final (c : Dev nD) : (projData m 0 c).arrAt 9 cfg0.N = result m c :=
  (projData m 0 c).arrAt_eq_of_cover 9 (result m c) (fun t _ => flushed_eq m c t) cover

end Cert.InArray

end
-- ==== Proof.lean ====
/-
  The certificate: the chunked scan kernel, the input projection and the tail kernel run from any memory, leave their
  arguments as they were and every semaphore at zero; on extended reals the results of the last two are their references'.
-/
module

public import proofs.«01_k».proof.Defs
public import proofs.«01_k».proof.Proof.Gen.Kernel
public import proofs.«01_k».proof.Proof.Gen.Tail.Frame
public import proofs.«01_k».proof.Proof.Gen.TailIdeal.Frame
public import proofs.«01_k».proof.Proof.Gen.TailReferenceIdeal.Run
public import proofs.«01_k».proof.Proof.S5Frame
public import proofs.«01_k».proof.Proof.TailArray
public import proofs.«01_k».proof.Proof.Gen.InProj
public import proofs.«01_k».proof.Proof.Gen.InProjReferenceIdeal.Run
public import proofs.«01_k».proof.Proof.InArray
public import Idealize.ShloMosaic.Lib.Quiescent

@[expose] public section

noncomputable section

namespace Cert.Proof

open Idealize.ShloMosaic Idealize.SL.Sem

/-- The chunked scan's body table is the same in both programs. -/
theorem bodies_kernel : Cert.Kernel.defs₀ (F := Bits) = Cert.KernelIdeal.defs₀ (F := Bits) :=
  congrArg Defs.onTc (funext fun l => funext fun x => by
    match l, x with
    | 0, (t, s) => rfl)

/-- So are its definitions. -/
theorem defs_kernel : Cert.Kernel.defs (F := Bits) = Cert.KernelIdeal.defs (F := Bits) :=
  congrArg (Pipeline.defs (Cert.KernelIdeal.pcfgs (F := Bits))) bodies_kernel

/-- The chunked scan kernel on machine words: the run of the idealised program, whose text is the same. -/
theorem frame_kernel : Cert.quiescent_Kernel := fun m ρ _ => by
  rw [defs_kernel]
  exact S5.run_main (F := Bits) m ρ

/-- The chunked scan kernel on extended reals. -/
theorem frame_kernel_ideal : Cert.quiescent_KernelIdeal := fun m ρ _ => S5.run_main (F := Ideal) m ρ

/-- The tail kernel on machine words. -/
theorem frame_tail : Cert.quiescent_Tail := fun m ρ _ => Cert.Tail.Gen.frame (F := Bits) m ρ

/-- The tail kernel on extended reals. -/
theorem frame_tail_ideal : Cert.quiescent_TailIdeal := fun m ρ _ => Cert.TailIdeal.Gen.frame (F := Ideal) m ρ

/-- The tail's reference on extended reals. -/
theorem frame_tail_reference : Cert.quiescent_TailReferenceIdeal := fun m ρ _ =>
  (θ_run Cert.TailReferenceIdeal.defs _ _).mono
    (fun r h => ⟨fun c => (h c).2, Idealize.ShloMosaic.sem_eq_zero_of_no_sems (by decide) r.2⟩)
    (Cert.TailReferenceIdeal.Value.run (F := Ideal) m ρ)

/-- The tail kernel's run with its value: the result array ends at the reference's array of the arguments. -/
theorem tail_run (m : (ℓ : Loc Cert.TailIdeal.nD Cert.TailIdeal.τ Cert.TailIdeal.sig) → Buf (Elt Ideal) ℓ)
    (ρ : Dev Cert.TailIdeal.nD → PrngReg) :
    θ_run (Cert.TailIdeal.defs (F := Ideal)) (onTc (τ := Cert.TailIdeal.τ) (Cert.TailIdeal.main (F := Ideal)))
      ⟨m, fun _ => 0, ρ⟩ (fun r => ∀ c : Dev Cert.TailIdeal.nD,
        r.2.mem ((c.tc : Thread Cert.TailIdeal.nD Cert.TailIdeal.τ).loc Cert.TailIdeal.main_v43) = TailArray.result m c) :=
  (θ_run Cert.TailIdeal.defs _ _).mono (fun r h c => ((h c).1 11).trans (TailArray.final m c))
    (Cert.TailIdeal.Gen.run_main (F := Ideal) m ρ)

/-- On extended reals the tail kernel and its reference, run on the same arguments, leave the same result. -/
theorem algebraic : Cert.algebraic_TailIdeal_TailReferenceIdeal := by
  intro m g m' g' _ hargs
  refine ⟨fun c => TailArray.result m c,
    (θ_run Cert.TailIdeal.defs _ _).mono (fun r h c => ⟨h.1 c, h.2 c⟩)
      (θ_run_and (tail_run m g) (Cert.TailIdeal.Gen.unchanged (F := Ideal) m g)), ?_⟩
  refine (θ_run Cert.TailReferenceIdeal.defs _ _).mono (fun r h c => ⟨(h c).1.trans ?_, (h c).2⟩)
    (Cert.TailReferenceIdeal.Value.run (F := Ideal) m' g')
  obtain ⟨h0, h1, h2, h3, h4, h5, h6, h7, h8, h9, h10⟩ := hargs c
  refine (TailReference.res_eq m' c).trans ?_
  rw [h0, h1, h2, h3, h4, h5, h6, h7, h8, h9, h10]
  rfl

/-- The input projection's body table is the same in both programs. -/
theorem bodies_in : Cert.InProj.defs₀ (F := Bits) = Cert.InProjIdeal.defs₀ (F := Bits) :=
  congrArg Defs.onTc (funext fun l => funext fun x => by
    match l, x with
    | 0, (t, s) => rfl)

/-- So are its definitions. -/
theorem defs_in : Cert.InProj.defs (F := Bits) = Cert.InProjIdeal.defs (F := Bits) :=
  congrArg (Pipeline.defs (Cert.InProjIdeal.pcfgs (F := Bits))) bodies_in

set_option maxHeartbeats 4000000 in
/-- So is its host program. -/
theorem main_in : Cert.InProj.main (F := Bits) = Cert.InProjIdeal.main (F := Bits) := by
  unfold Cert.InProj.main Cert.InProjIdeal.main; rfl

/-- The input projection on machine words: the run of the idealised program, whose text is the same. -/
theorem frame_in : Cert.quiescent_InProj := fun m ρ _ => by
  rw [defs_in, main_in]
  exact InProj.quiet (F := Bits) m ρ

/-- The input projection on extended reals. -/
theorem frame_in_ideal : Cert.quiescent_InProjIdeal := fun m ρ _ => InProj.quiet (F := Ideal) m ρ

/-- The input projection's reference on extended reals. -/
theorem frame_in_reference : Cert.quiescent_InProjReferenceIdeal := fun m ρ _ =>
  (θ_run Cert.InProjReferenceIdeal.defs _ _).mono
    (fun r h => ⟨fun c => (h c).2, Idealize.ShloMosaic.sem_eq_zero_of_no_sems (by decide) r.2⟩)
    (Cert.InProjReferenceIdeal.Value.run (F := Ideal) m ρ)

/-- On extended reals the input projection and its reference, run on the same arguments, leave the same array. -/
theorem algebraic_in : Cert.algebraic_InProjIdeal_InProjReferenceIdeal := by
  intro m g m' g' _ hargs
  refine ⟨fun c => InArray.result m c,
    (θ_run (Cert.InProjIdeal.defs (F := Ideal)) _ _).mono
      (fun _ h c => have ⟨a0, a1, a2, a3, a4, a5, a6, a7, a8⟩ := h.1 c
        ⟨a8.trans (InArray.final m c), a0, a1, a2, a3, a4, a5, a6, a7⟩)
      (InProj.run_main (F := Ideal) m g), ?_⟩
  refine (θ_run Cert.InProjReferenceIdeal.defs _ _).mono (fun r h c => ⟨(h c).1.trans ?_, (h c).2⟩)
    (Cert.InProjReferenceIdeal.Value.run (F := Ideal) m' g')
  obtain ⟨h0, h1, h2, h3, h4, h5, h6, h7⟩ := hargs c
  rw [h0, h1, h2, h3]
  rfl

/-- All the claims together. -/
theorem claim : Cert.Claim := ⟨Cert.Kernel.Gen.facts, Cert.KernelIdeal.Gen.facts, Cert.Tail.Gen.facts, Cert.TailIdeal.Gen.facts,
  Cert.TailReferenceIdeal.Gen.facts, Cert.InProj.Gen.facts, Cert.InProjIdeal.Gen.facts, Cert.InProjReferenceIdeal.Gen.facts,
  frame_kernel, frame_kernel_ideal, frame_tail, frame_tail_ideal, frame_tail_reference,
  frame_in, frame_in_ideal, frame_in_reference, trivial, trivial, algebraic, trivial, algebraic_in⟩

end Cert.Proof

end
